-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S10000x32 : Shape := ⟨2, ![10000, 32]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel

variable [Facts]

def fn {F : FTy → Type} [FloatOps F] (main_arg0 : FVec F S10000x128 .f32) (main_arg1 : IVec S10000x32 32) : IVec S_ 1 :=
  let main_c : IVec S_ 32 := constantI S_ 32 0#32
  let main_v0 : IVec S10000x32 32 := broadcastInDim S10000x32 ![] bcast_S_S10000x32 main_c
  let main_v1 : IVec S10000x32 1 := cmpi .sge main_arg1 main_v0
  let main_c_0 : IVec S_ 32 := constantI S_ 32 10000#32
  let main_v2 : IVec S10000x32 32 := broadcastInDim S10000x32 ![] bcast_S_S10000x32 main_c_0
  let main_v3 : IVec S10000x32 1 := cmpi .slt main_arg1 main_v2
  let main_v4 : IVec S10000x32 1 := andi main_v1 main_v3
  let main_c_1 : IVec S_ 1 := constantI S_ 1 1#1
  let main_v5 : IVec S_ 1 := (fun x v => Host.reduce IntOp.andi x v reducesTo_S10000x32_S_d0_1 h_S_) main_v4 main_c_1
  main_v5
-- ==== Kernel.lean ====
abbrev S10000x128 : Shape := ⟨2, ![10000, 128]⟩
abbrev S10000x32 : Shape := ⟨2, ![10000, 32]⟩
abbrev S2500x128 : Shape := ⟨2, ![2500, 128]⟩
abbrev S_ : Shape := ⟨0, ![]⟩
abbrev S2560x128 : Shape := ⟨2, ![2560, 128]⟩
abbrev S10240x128 : Shape := ⟨2, ![10240, 128]⟩
abbrev S80x128 : Shape := ⟨2, ![80, 128]⟩
abbrev S2x128x128 : Shape := ⟨3, ![2, 128, 128]⟩
abbrev S2x4x128 : Shape := ⟨3, ![2, 4, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x4x128 : Shape := ⟨3, ![1, 4, 128]⟩
abbrev S4x128 : Shape := ⟨2, ![4, 128]⟩
abbrev S1x1x16 : Shape := ⟨3, ![1, 1, 16]⟩
abbrev S16 : Shape := ⟨1, ![16]⟩

abbrev nBuf : Table → Nat
  | .hbm => 8
  | .local .scVector .vmem => 3
  | _ => 0

abbrev bufTy : (tb : Table) → Fin (nBuf tb) → BufTy
  | .hbm, ⟨0, _⟩ => ⟨S10000x128, .f32⟩
  | .hbm, ⟨1, _⟩ => ⟨S10000x32, .i32⟩
  | .hbm, ⟨2, _⟩ => ⟨S2500x128, .i32⟩
  | .hbm, ⟨3, _⟩ => ⟨S_, .i32⟩
  | .hbm, ⟨4, _⟩ => ⟨S_, .i32⟩
  | .hbm, ⟨5, _⟩ => ⟨S2560x128, .i32⟩
  | .hbm, ⟨6, _⟩ => ⟨S10240x128, .f32⟩
  | .hbm, ⟨7, _⟩ => ⟨S10000x128, .f32⟩
  | .local .scVector .vmem, ⟨0, _⟩ => ⟨S80x128, .i32⟩
  | .local .scVector .vmem, ⟨1, _⟩ => ⟨S2x128x128, .f32⟩
  | .local .scVector .vmem, ⟨2, _⟩ => ⟨S2x4x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c80_i32 : BitVec 32 := 80#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c80_i32 v1
  let c0_i32_26_r0 : BitVec 32 := 0#32
  ![v2.toNat, 0]
@[reducible] def k0_t1_loop : Scf.Loop 32 :=
  let c0_i32_6 : BitVec 32 := 0#32
  let c40_i32 : BitVec 32 := 40#32
  let v8 : BitVec 32 := Scalar.addi c0_i32_6 c40_i32
  let c1_i32 : BitVec 32 := 1#32
  ⟨c0_i32_6, v8, c1_i32⟩
def k0_cond1 (k0_t1 : Fin k0_t1_loop.trips) : BitVec 1 :=
  let c0_i32_27 : BitVec 32 := 0#32
  let c0_i32_6 : BitVec 32 := 0#32
  let c1_i32 : BitVec 32 := 1#32
  let arg12 : BitVec 32 := Scf.iv c0_i32_6 c1_i32 k0_t1
  let c2_i32_26 : BitVec 32 := 2#32
  let v21 : BitVec 32 := Scalar.muli arg12 c2_i32_26
  let v22 : BitVec 32 := Scalar.addi c0_i32_27 v21
  let c0_i32_28 : BitVec 32 := 0#32
  let v23 : BitVec 32 := Scalar.addi v22 c0_i32_28
  let c1_i32_29 : BitVec 32 := 1#32
  let v24 : BitVec 32 := Scalar.addi v23 c1_i32_29
  let c80_i32_30 : BitVec 32 := 80#32
  let v25 : BitVec 1 := Scalar.cmpi .slt v24 c80_i32_30
  let v26 : BitVec 32 := Scalar.extui v25
  let c0_i32_31 : BitVec 32 := 0#32
  let v27 : BitVec 1 := Scalar.cmpi .ne v26 c0_i32_31
  v27

def k0_off2 (k0_t1 : Fin k0_t1_loop.trips) : Fin 2 → Nat :=
  let c0_i32_27 : BitVec 32 := 0#32
  let c0_i32_6 : BitVec 32 := 0#32
  let c1_i32 : BitVec 32 := 1#32
  let arg12 : BitVec 32 := Scf.iv c0_i32_6 c1_i32 k0_t1
  let c2_i32_26 : BitVec 32 := 2#32
  let v21 : BitVec 32 := Scalar.muli arg12 c2_i32_26
  let v22 : BitVec 32 := Scalar.addi c0_i32_27 v21
  let c0_i32_28 : BitVec 32 := 0#32
  let v23 : BitVec 32 := Scalar.addi v22 c0_i32_28
  let c1_i32_472 : BitVec 32 := 1#32
  let v657 : BitVec 32 := Scalar.addi v23 c1_i32_472
  let c0_i32_476 : BitVec 32 := 0#32
  ![v657.toNat, 0]
@[reducible] def k0_t2_loop : Scf.Loop 32 :=
  let c1_i32_57 : BitVec 32 := 1#32
  let c31_i32 : BitVec 32 := 31#32
  let v68 : BitVec 32 := Scalar.addi c1_i32_57 c31_i32
  let c1_i32_58 : BitVec 32 := 1#32
  ⟨c1_i32_57, v68, c1_i32_58⟩
def k0_off3 (k0_t2 : Fin k0_t2_loop.trips) : Fin 3 → Nat :=
  let c0_i32_473 : BitVec 32 := 0#32
  let v658 : Index := Scalar.indexCast c0_i32_473
  let c0_i32_472 : BitVec 32 := 0#32
  let c1_i32_57 : BitVec 32 := 1#32
  let c1_i32_58 : BitVec 32 := 1#32
  let arg13 : BitVec 32 := Scf.iv c1_i32_57 c1_i32_58 k0_t2
  let v657 : BitVec 32 := Scalar.addi c0_i32_472 arg13
  let v659 : Index := Scalar.indexCast v657
  let c0_474 : Index := 0#32
  ![0, v659.toNat, 0]
def k0_off4 (k0_t2 : Fin k0_t2_loop.trips) : Fin 3 → Nat :=
  let c0_i32_476 : BitVec 32 := 0#32
  let v664 : Index := Scalar.indexCast c0_i32_476
  let c0_i32_475 : BitVec 32 := 0#32
  let c1_i32_57 : BitVec 32 := 1#32
  let c1_i32_58 : BitVec 32 := 1#32
  let arg13 : BitVec 32 := Scf.iv c1_i32_57 c1_i32_58 k0_t2
  let v663 : BitVec 32 := Scalar.addi c0_i32_475 arg13
  let v665 : Index := Scalar.indexCast v663
  let c16_477 : Index := 16#32
  ![0, v665.toNat, 16]
def k0_off5 (k0_t2 : Fin k0_t2_loop.trips) : Fin 3 → Nat :=
  let c0_i32_479 : BitVec 32 := 0#32
  let v670 : Index := Scalar.indexCast c0_i32_479
  let c0_i32_478 : BitVec 32 := 0#32
  let c1_i32_57 : BitVec 32 := 1#32
  let c1_i32_58 : BitVec 32 := 1#32
  let arg13 : BitVec 32 := Scf.iv c1_i32_57 c1_i32_58 k0_t2
  let v669 : BitVec 32 := Scalar.addi c0_i32_478 arg13
  let v671 : Index := Scalar.indexCast v669
  let c32_480 : Index := 32#32
  ![0, v671.toNat, 32]
def k0_off6 (k0_t2 : Fin k0_t2_loop.trips) : Fin 3 → Nat :=
  let c0_i32_482 : BitVec 32 := 0#32
  let v676 : Index := Scalar.indexCast c0_i32_482
  let c0_i32_481 : BitVec 32 := 0#32
  let c1_i32_57 : BitVec 32 := 1#32
  let c1_i32_58 : BitVec 32 := 1#32
  let arg13 : BitVec 32 := Scf.iv c1_i32_57 c1_i32_58 k0_t2
  let v675 : BitVec 32 := Scalar.addi c0_i32_481 arg13
  let v677 : Index := Scalar.indexCast v675
  let c48_483 : Index := 48#32
  ![0, v677.toNat, 48]
def k0_off7 (k0_t2 : Fin k0_t2_loop.trips) : Fin 3 → Nat :=
  let c0_i32_485 : BitVec 32 := 0#32
  let v682 : Index := Scalar.indexCast c0_i32_485
  let c0_i32_484 : BitVec 32 := 0#32
  let c1_i32_57 : BitVec 32 := 1#32
  let c1_i32_58 : BitVec 32 := 1#32
  let arg13 : BitVec 32 := Scf.iv c1_i32_57 c1_i32_58 k0_t2
  let v681 : BitVec 32 := Scalar.addi c0_i32_484 arg13
  let v683 : Index := Scalar.indexCast v681
  let c64_486 : Index := 64#32
  ![0, v683.toNat, 64]
def k0_off8 (k0_t2 : Fin k0_t2_loop.trips) : Fin 3 → Nat :=
  let c0_i32_488 : BitVec 32 := 0#32
  let v688 : Index := Scalar.indexCast c0_i32_488
  let c0_i32_487 : BitVec 32 := 0#32
  let c1_i32_57 : BitVec 32 := 1#32
  let c1_i32_58 : BitVec 32 := 1#32
  let arg13 : BitVec 32 := Scf.iv c1_i32_57 c1_i32_58 k0_t2
  let v687 : BitVec 32 := Scalar.addi c0_i32_487 arg13
  let v689 : Index := Scalar.indexCast v687
  let c80_489 : Index := 80#32
  ![0, v689.toNat, 80]
def k0_off9 (k0_t2 : Fin k0_t2_loop.trips) : Fin 3 → Nat :=
  let c0_i32_491 : BitVec 32 := 0#32
  let v694 : Index := Scalar.indexCast c0_i32_491
  let c0_i32_490 : BitVec 32 := 0#32
  let c1_i32_57 : BitVec 32 := 1#32
  let c1_i32_58 : BitVec 32 := 1#32
  let arg13 : BitVec 32 := Scf.iv c1_i32_57 c1_i32_58 k0_t2
  let v693 : BitVec 32 := Scalar.addi c0_i32_490 arg13
  let v695 : Index := Scalar.indexCast v693
  let c96_492 : Index := 96#32
  ![0, v695.toNat, 96]
def k0_off10 (k0_t2 : Fin k0_t2_loop.trips) : Fin 3 → Nat :=
  let c0_i32_494 : BitVec 32 := 0#32
  let v700 : Index := Scalar.indexCast c0_i32_494
  let c0_i32_493 : BitVec 32 := 0#32
  let c1_i32_57 : BitVec 32 := 1#32
  let c1_i32_58 : BitVec 32 := 1#32
  let arg13 : BitVec 32 := Scf.iv c1_i32_57 c1_i32_58 k0_t2
  let v699 : BitVec 32 := Scalar.addi c0_i32_493 arg13
  let v701 : Index := Scalar.indexCast v699
  let c112_495 : Index := 112#32
  ![0, v701.toNat, 112]
@[reducible] def k0_t3_loop : Scf.Loop 32 :=
  let c1_i32_107 : BitVec 32 := 1#32
  let c31_i32_108 : BitVec 32 := 31#32
  let v142 : BitVec 32 := Scalar.addi c1_i32_107 c31_i32_108
  let c1_i32_109 : BitVec 32 := 1#32
  ⟨c1_i32_107, v142, c1_i32_109⟩
def k0_off11 (k0_t3 : Fin k0_t3_loop.trips) : Fin 3 → Nat :=
  let c0_i32_473 : BitVec 32 := 0#32
  let v658 : Index := Scalar.indexCast c0_i32_473
  let c32_i32_472 : BitVec 32 := 32#32
  let c1_i32_107 : BitVec 32 := 1#32
  let c1_i32_109 : BitVec 32 := 1#32
  let arg13 : BitVec 32 := Scf.iv c1_i32_107 c1_i32_109 k0_t3
  let v657 : BitVec 32 := Scalar.addi c32_i32_472 arg13
  let v659 : Index := Scalar.indexCast v657
  let c0_474 : Index := 0#32
  ![0, v659.toNat, 0]
def k0_off12 (k0_t3 : Fin k0_t3_loop.trips) : Fin 3 → Nat :=
  let c0_i32_476 : BitVec 32 := 0#32
  let v664 : Index := Scalar.indexCast c0_i32_476
  let c32_i32_475 : BitVec 32 := 32#32
  let c1_i32_107 : BitVec 32 := 1#32
  let c1_i32_109 : BitVec 32 := 1#32
  let arg13 : BitVec 32 := Scf.iv c1_i32_107 c1_i32_109 k0_t3
  let v663 : BitVec 32 := Scalar.addi c32_i32_475 arg13
  let v665 : Index := Scalar.indexCast v663
  let c16_477 : Index := 16#32
  ![0, v665.toNat, 16]
def k0_off13 (k0_t3 : Fin k0_t3_loop.trips) : Fin 3 → Nat :=
  let c0_i32_479 : BitVec 32 := 0#32
  let v670 : Index := Scalar.indexCast c0_i32_479
  let c32_i32_478 : BitVec 32 := 32#32
  let c1_i32_107 : BitVec 32 := 1#32
  let c1_i32_109 : BitVec 32 := 1#32
  let arg13 : BitVec 32 := Scf.iv c1_i32_107 c1_i32_109 k0_t3
  let v669 : BitVec 32 := Scalar.addi c32_i32_478 arg13
  let v671 : Index := Scalar.indexCast v669
  let c32_480 : Index := 32#32
  ![0, v671.toNat, 32]
def k0_off14 (k0_t3 : Fin k0_t3_loop.trips) : Fin 3 → Nat :=
  let c0_i32_482 : BitVec 32 := 0#32
  let v676 : Index := Scalar.indexCast c0_i32_482
  let c32_i32_481 : BitVec 32 := 32#32
  let c1_i32_107 : BitVec 32 := 1#32
  let c1_i32_109 : BitVec 32 := 1#32
  let arg13 : BitVec 32 := Scf.iv c1_i32_107 c1_i32_109 k0_t3
  let v675 : BitVec 32 := Scalar.addi c32_i32_481 arg13
  let v677 : Index := Scalar.indexCast v675
  let c48_483 : Index := 48#32
  ![0, v677.toNat, 48]
def k0_off15 (k0_t3 : Fin k0_t3_loop.trips) : Fin 3 → Nat :=
  let c0_i32_485 : BitVec 32 := 0#32
  let v682 : Index := Scalar.indexCast c0_i32_485
  let c32_i32_484 : BitVec 32 := 32#32
  let c1_i32_107 : BitVec 32 := 1#32
  let c1_i32_109 : BitVec 32 := 1#32
  let arg13 : BitVec 32 := Scf.iv c1_i32_107 c1_i32_109 k0_t3
  let v681 : BitVec 32 := Scalar.addi c32_i32_484 arg13
  let v683 : Index := Scalar.indexCast v681
  let c64_486 : Index := 64#32
  ![0, v683.toNat, 64]
def k0_off16 (k0_t3 : Fin k0_t3_loop.trips) : Fin 3 → Nat :=
  let c0_i32_488 : BitVec 32 := 0#32
  let v688 : Index := Scalar.indexCast c0_i32_488
  let c32_i32_487 : BitVec 32 := 32#32
  let c1_i32_107 : BitVec 32 := 1#32
  let c1_i32_109 : BitVec 32 := 1#32
  let arg13 : BitVec 32 := Scf.iv c1_i32_107 c1_i32_109 k0_t3
  let v687 : BitVec 32 := Scalar.addi c32_i32_487 arg13
  let v689 : Index := Scalar.indexCast v687
  let c80_489 : Index := 80#32
  ![0, v689.toNat, 80]
def k0_off17 (k0_t3 : Fin k0_t3_loop.trips) : Fin 3 → Nat :=
  let c0_i32_491 : BitVec 32 := 0#32
  let v694 : Index := Scalar.indexCast c0_i32_491
  let c32_i32_490 : BitVec 32 := 32#32
  let c1_i32_107 : BitVec 32 := 1#32
  let c1_i32_109 : BitVec 32 := 1#32
  let arg13 : BitVec 32 := Scf.iv c1_i32_107 c1_i32_109 k0_t3
  let v693 : BitVec 32 := Scalar.addi c32_i32_490 arg13
  let v695 : Index := Scalar.indexCast v693
  let c96_492 : Index := 96#32
  ![0, v695.toNat, 96]
def k0_off18 (k0_t3 : Fin k0_t3_loop.trips) : Fin 3 → Nat :=
  let c0_i32_494 : BitVec 32 := 0#32
  let v700 : Index := Scalar.indexCast c0_i32_494
  let c32_i32_493 : BitVec 32 := 32#32
  let c1_i32_107 : BitVec 32 := 1#32
  let c1_i32_109 : BitVec 32 := 1#32
  let arg13 : BitVec 32 := Scf.iv c1_i32_107 c1_i32_109 k0_t3
  let v699 : BitVec 32 := Scalar.addi c32_i32_493 arg13
  let v701 : Index := Scalar.indexCast v699
  let c112_495 : Index := 112#32
  ![0, v701.toNat, 112]
@[reducible] def k0_t4_loop : Scf.Loop 32 :=
  let c1_i32_158 : BitVec 32 := 1#32
  let c31_i32_159 : BitVec 32 := 31#32
  let v216 : BitVec 32 := Scalar.addi c1_i32_158 c31_i32_159
  let c1_i32_160 : BitVec 32 := 1#32
  ⟨c1_i32_158, v216, c1_i32_160⟩
def k0_off19 (k0_t4 : Fin k0_t4_loop.trips) : Fin 3 → Nat :=
  let c0_i32_473 : BitVec 32 := 0#32
  let v658 : Index := Scalar.indexCast c0_i32_473
  let c64_i32_472 : BitVec 32 := 64#32
  let c1_i32_158 : BitVec 32 := 1#32
  let c1_i32_160 : BitVec 32 := 1#32
  let arg13 : BitVec 32 := Scf.iv c1_i32_158 c1_i32_160 k0_t4
  let v657 : BitVec 32 := Scalar.addi c64_i32_472 arg13
  let v659 : Index := Scalar.indexCast v657
  let c0_474 : Index := 0#32
  ![0, v659.toNat, 0]
def k0_off20 (k0_t4 : Fin k0_t4_loop.trips) : Fin 3 → Nat :=
  let c0_i32_476 : BitVec 32 := 0#32
  let v664 : Index := Scalar.indexCast c0_i32_476
  let c64_i32_475 : BitVec 32 := 64#32
  let c1_i32_158 : BitVec 32 := 1#32
  let c1_i32_160 : BitVec 32 := 1#32
  let arg13 : BitVec 32 := Scf.iv c1_i32_158 c1_i32_160 k0_t4
  let v663 : BitVec 32 := Scalar.addi c64_i32_475 arg13
  let v665 : Index := Scalar.indexCast v663
  let c16_477 : Index := 16#32
  ![0, v665.toNat, 16]
def k0_off21 (k0_t4 : Fin k0_t4_loop.trips) : Fin 3 → Nat :=
  let c0_i32_479 : BitVec 32 := 0#32
  let v670 : Index := Scalar.indexCast c0_i32_479
  let c64_i32_478 : BitVec 32 := 64#32
  let c1_i32_158 : BitVec 32 := 1#32
  let c1_i32_160 : BitVec 32 := 1#32
  let arg13 : BitVec 32 := Scf.iv c1_i32_158 c1_i32_160 k0_t4
  let v669 : BitVec 32 := Scalar.addi c64_i32_478 arg13
  let v671 : Index := Scalar.indexCast v669
  let c32_480 : Index := 32#32
  ![0, v671.toNat, 32]
def k0_off22 (k0_t4 : Fin k0_t4_loop.trips) : Fin 3 → Nat :=
  let c0_i32_482 : BitVec 32 := 0#32
  let v676 : Index := Scalar.indexCast c0_i32_482
  let c64_i32_481 : BitVec 32 := 64#32
  let c1_i32_158 : BitVec 32 := 1#32
  let c1_i32_160 : BitVec 32 := 1#32
  let arg13 : BitVec 32 := Scf.iv c1_i32_158 c1_i32_160 k0_t4
  let v675 : BitVec 32 := Scalar.addi c64_i32_481 arg13
  let v677 : Index := Scalar.indexCast v675
  let c48_483 : Index := 48#32
  ![0, v677.toNat, 48]
def k0_off23 (k0_t4 : Fin k0_t4_loop.trips) : Fin 3 → Nat :=
  let c0_i32_485 : BitVec 32 := 0#32
  let v682 : Index := Scalar.indexCast c0_i32_485
  let c64_i32_484 : BitVec 32 := 64#32
  let c1_i32_158 : BitVec 32 := 1#32
  let c1_i32_160 : BitVec 32 := 1#32
  let arg13 : BitVec 32 := Scf.iv c1_i32_158 c1_i32_160 k0_t4
  let v681 : BitVec 32 := Scalar.addi c64_i32_484 arg13
  let v683 : Index := Scalar.indexCast v681
  let c64_486 : Index := 64#32
  ![0, v683.toNat, 64]
def k0_off24 (k0_t4 : Fin k0_t4_loop.trips) : Fin 3 → Nat :=
  let c0_i32_488 : BitVec 32 := 0#32
  let v688 : Index := Scalar.indexCast c0_i32_488
  let c64_i32_487 : BitVec 32 := 64#32
  let c1_i32_158 : BitVec 32 := 1#32
  let c1_i32_160 : BitVec 32 := 1#32
  let arg13 : BitVec 32 := Scf.iv c1_i32_158 c1_i32_160 k0_t4
  let v687 : BitVec 32 := Scalar.addi c64_i32_487 arg13
  let v689 : Index := Scalar.indexCast v687
  let c80_489 : Index := 80#32
  ![0, v689.toNat, 80]
def k0_off25 (k0_t4 : Fin k0_t4_loop.trips) : Fin 3 → Nat :=
  let c0_i32_491 : BitVec 32 := 0#32
  let v694 : Index := Scalar.indexCast c0_i32_491
  let c64_i32_490 : BitVec 32 := 64#32
  let c1_i32_158 : BitVec 32 := 1#32
  let c1_i32_160 : BitVec 32 := 1#32
  let arg13 : BitVec 32 := Scf.iv c1_i32_158 c1_i32_160 k0_t4
  let v693 : BitVec 32 := Scalar.addi c64_i32_490 arg13
  let v695 : Index := Scalar.indexCast v693
  let c96_492 : Index := 96#32
  ![0, v695.toNat, 96]
def k0_off26 (k0_t4 : Fin k0_t4_loop.trips) : Fin 3 → Nat :=
  let c0_i32_494 : BitVec 32 := 0#32
  let v700 : Index := Scalar.indexCast c0_i32_494
  let c64_i32_493 : BitVec 32 := 64#32
  let c1_i32_158 : BitVec 32 := 1#32
  let c1_i32_160 : BitVec 32 := 1#32
  let arg13 : BitVec 32 := Scf.iv c1_i32_158 c1_i32_160 k0_t4
  let v699 : BitVec 32 := Scalar.addi c64_i32_493 arg13
  let v701 : Index := Scalar.indexCast v699
  let c112_495 : Index := 112#32
  ![0, v701.toNat, 112]
@[reducible] def k0_t5_loop : Scf.Loop 32 :=
  let c1_i32_209 : BitVec 32 := 1#32
  let c31_i32_210 : BitVec 32 := 31#32
  let v290 : BitVec 32 := Scalar.addi c1_i32_209 c31_i32_210
  let c1_i32_211 : BitVec 32 := 1#32
  ⟨c1_i32_209, v290, c1_i32_211⟩
def k0_off27 (k0_t5 : Fin k0_t5_loop.trips) : Fin 3 → Nat :=
  let c0_i32_473 : BitVec 32 := 0#32
  let v658 : Index := Scalar.indexCast c0_i32_473
  let c96_i32_472 : BitVec 32 := 96#32
  let c1_i32_209 : BitVec 32 := 1#32
  let c1_i32_211 : BitVec 32 := 1#32
  let arg13 : BitVec 32 := Scf.iv c1_i32_209 c1_i32_211 k0_t5
  let v657 : BitVec 32 := Scalar.addi c96_i32_472 arg13
  let v659 : Index := Scalar.indexCast v657
  let c0_474 : Index := 0#32
  ![0, v659.toNat, 0]
def k0_off28 (k0_t5 : Fin k0_t5_loop.trips) : Fin 3 → Nat :=
  let c0_i32_476 : BitVec 32 := 0#32
  let v664 : Index := Scalar.indexCast c0_i32_476
  let c96_i32_475 : BitVec 32 := 96#32
  let c1_i32_209 : BitVec 32 := 1#32
  let c1_i32_211 : BitVec 32 := 1#32
  let arg13 : BitVec 32 := Scf.iv c1_i32_209 c1_i32_211 k0_t5
  let v663 : BitVec 32 := Scalar.addi c96_i32_475 arg13
  let v665 : Index := Scalar.indexCast v663
  let c16_477 : Index := 16#32
  ![0, v665.toNat, 16]
def k0_off29 (k0_t5 : Fin k0_t5_loop.trips) : Fin 3 → Nat :=
  let c0_i32_479 : BitVec 32 := 0#32
  let v670 : Index := Scalar.indexCast c0_i32_479
  let c96_i32_478 : BitVec 32 := 96#32
  let c1_i32_209 : BitVec 32 := 1#32
  let c1_i32_211 : BitVec 32 := 1#32
  let arg13 : BitVec 32 := Scf.iv c1_i32_209 c1_i32_211 k0_t5
  let v669 : BitVec 32 := Scalar.addi c96_i32_478 arg13
  let v671 : Index := Scalar.indexCast v669
  let c32_480 : Index := 32#32
  ![0, v671.toNat, 32]
def k0_off30 (k0_t5 : Fin k0_t5_loop.trips) : Fin 3 → Nat :=
  let c0_i32_482 : BitVec 32 := 0#32
  let v676 : Index := Scalar.indexCast c0_i32_482
  let c96_i32_481 : BitVec 32 := 96#32
  let c1_i32_209 : BitVec 32 := 1#32
  let c1_i32_211 : BitVec 32 := 1#32
  let arg13 : BitVec 32 := Scf.iv c1_i32_209 c1_i32_211 k0_t5
  let v675 : BitVec 32 := Scalar.addi c96_i32_481 arg13
  let v677 : Index := Scalar.indexCast v675
  let c48_483 : Index := 48#32
  ![0, v677.toNat, 48]
def k0_off31 (k0_t5 : Fin k0_t5_loop.trips) : Fin 3 → Nat :=
  let c0_i32_485 : BitVec 32 := 0#32
  let v682 : Index := Scalar.indexCast c0_i32_485
  let c96_i32_484 : BitVec 32 := 96#32
  let c1_i32_209 : BitVec 32 := 1#32
  let c1_i32_211 : BitVec 32 := 1#32
  let arg13 : BitVec 32 := Scf.iv c1_i32_209 c1_i32_211 k0_t5
  let v681 : BitVec 32 := Scalar.addi c96_i32_484 arg13
  let v683 : Index := Scalar.indexCast v681
  let c64_486 : Index := 64#32
  ![0, v683.toNat, 64]
def k0_off32 (k0_t5 : Fin k0_t5_loop.trips) : Fin 3 → Nat :=
  let c0_i32_488 : BitVec 32 := 0#32
  let v688 : Index := Scalar.indexCast c0_i32_488
  let c96_i32_487 : BitVec 32 := 96#32
  let c1_i32_209 : BitVec 32 := 1#32
  let c1_i32_211 : BitVec 32 := 1#32
  let arg13 : BitVec 32 := Scf.iv c1_i32_209 c1_i32_211 k0_t5
  let v687 : BitVec 32 := Scalar.addi c96_i32_487 arg13
  let v689 : Index := Scalar.indexCast v687
  let c80_489 : Index := 80#32
  ![0, v689.toNat, 80]
def k0_off33 (k0_t5 : Fin k0_t5_loop.trips) : Fin 3 → Nat :=
  let c0_i32_491 : BitVec 32 := 0#32
  let v694 : Index := Scalar.indexCast c0_i32_491
  let c96_i32_490 : BitVec 32 := 96#32
  let c1_i32_209 : BitVec 32 := 1#32
  let c1_i32_211 : BitVec 32 := 1#32
  let arg13 : BitVec 32 := Scf.iv c1_i32_209 c1_i32_211 k0_t5
  let v693 : BitVec 32 := Scalar.addi c96_i32_490 arg13
  let v695 : Index := Scalar.indexCast v693
  let c96_492 : Index := 96#32
  ![0, v695.toNat, 96]
def k0_off34 (k0_t5 : Fin k0_t5_loop.trips) : Fin 3 → Nat :=
  let c0_i32_494 : BitVec 32 := 0#32
  let v700 : Index := Scalar.indexCast c0_i32_494
  let c96_i32_493 : BitVec 32 := 96#32
  let c1_i32_209 : BitVec 32 := 1#32
  let c1_i32_211 : BitVec 32 := 1#32
  let arg13 : BitVec 32 := Scf.iv c1_i32_209 c1_i32_211 k0_t5
  let v699 : BitVec 32 := Scalar.addi c96_i32_493 arg13
  let v701 : Index := Scalar.indexCast v699
  let c112_495 : Index := 112#32
  ![0, v701.toNat, 112]
def k0_off35 (i : grid0.Coords) (k0_t1 : Fin k0_t1_loop.trips) (c0_i32_28 : BitVec 32) : Fin 2 → Nat :=
  let c80_i32 : BitVec 32 := 80#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c80_i32 v1
  let c0_i32_27 : BitVec 32 := 0#32
  let c0_i32_6 : BitVec 32 := 0#32
  let c1_i32 : BitVec 32 := 1#32
  let arg12 : BitVec 32 := Scf.iv c0_i32_6 c1_i32 k0_t1
  let c2_i32_26 : BitVec 32 := 2#32
  let v21 : BitVec 32 := Scalar.muli arg12 c2_i32_26
  let v22 : BitVec 32 := Scalar.addi c0_i32_27 v21
  let v23 : BitVec 32 := Scalar.addi v22 c0_i32_28
  let v332 : BitVec 32 := Scalar.addi v2 v23
  let c4_i32 : BitVec 32 := 4#32
  let v333 : BitVec 32 := Scalar.muli v332 c4_i32
  let c0_i32_239 : BitVec 32 := 0#32
  ![v333.toNat, 0]
def k0_cond3 (k0_t1 : Fin k0_t1_loop.trips) : BitVec 1 :=
  let c0_i32_27 : BitVec 32 := 0#32
  let c0_i32_6 : BitVec 32 := 0#32
  let c1_i32 : BitVec 32 := 1#32
  let arg12 : BitVec 32 := Scf.iv c0_i32_6 c1_i32 k0_t1
  let c2_i32_26 : BitVec 32 := 2#32
  let v21 : BitVec 32 := Scalar.muli arg12 c2_i32_26
  let v22 : BitVec 32 := Scalar.addi c0_i32_27 v21
  let c1_i32_243 : BitVec 32 := 1#32
  let v340 : BitVec 32 := Scalar.addi v22 c1_i32_243
  let c1_i32_244 : BitVec 32 := 1#32
  let v341 : BitVec 32 := Scalar.addi v340 c1_i32_244
  let c80_i32_245 : BitVec 32 := 80#32
  let v342 : BitVec 1 := Scalar.cmpi .slt v341 c80_i32_245
  let v343 : BitVec 32 := Scalar.extui v342
  let c0_i32_246 : BitVec 32 := 0#32
  let v344 : BitVec 1 := Scalar.cmpi .ne v343 c0_i32_246
  v344

def k0_off36 (k0_t1 : Fin k0_t1_loop.trips) : Fin 2 → Nat :=
  let c0_i32_27 : BitVec 32 := 0#32
  let c0_i32_6 : BitVec 32 := 0#32
  let c1_i32 : BitVec 32 := 1#32
  let arg12 : BitVec 32 := Scf.iv c0_i32_6 c1_i32 k0_t1
  let c2_i32_26 : BitVec 32 := 2#32
  let v21 : BitVec 32 := Scalar.muli arg12 c2_i32_26
  let v22 : BitVec 32 := Scalar.addi c0_i32_27 v21
  let c1_i32_243 : BitVec 32 := 1#32
  let v340 : BitVec 32 := Scalar.addi v22 c1_i32_243
  let c1_i32_472 : BitVec 32 := 1#32
  let v657 : BitVec 32 := Scalar.addi v340 c1_i32_472
  let c0_i32_476 : BitVec 32 := 0#32
  ![v657.toNat, 0]
@[reducible] def k0_t6_loop : Scf.Loop 32 :=
  let c1_i32_280 : BitVec 32 := 1#32
  let c31_i32_281 : BitVec 32 := 31#32
  let v385 : BitVec 32 := Scalar.addi c1_i32_280 c31_i32_281
  let c1_i32_282 : BitVec 32 := 1#32
  ⟨c1_i32_280, v385, c1_i32_282⟩
def k0_off37 (k0_t6 : Fin k0_t6_loop.trips) : Fin 3 → Nat :=
  let c1_i32_473 : BitVec 32 := 1#32
  let v658 : Index := Scalar.indexCast c1_i32_473
  let c0_i32_472 : BitVec 32 := 0#32
  let c1_i32_280 : BitVec 32 := 1#32
  let c1_i32_282 : BitVec 32 := 1#32
  let arg13 : BitVec 32 := Scf.iv c1_i32_280 c1_i32_282 k0_t6
  let v657 : BitVec 32 := Scalar.addi c0_i32_472 arg13
  let v659 : Index := Scalar.indexCast v657
  let c0_474 : Index := 0#32
  ![1, v659.toNat, 0]
def k0_off38 (k0_t6 : Fin k0_t6_loop.trips) : Fin 3 → Nat :=
  let c1_i32_476 : BitVec 32 := 1#32
  let v664 : Index := Scalar.indexCast c1_i32_476
  let c0_i32_475 : BitVec 32 := 0#32
  let c1_i32_280 : BitVec 32 := 1#32
  let c1_i32_282 : BitVec 32 := 1#32
  let arg13 : BitVec 32 := Scf.iv c1_i32_280 c1_i32_282 k0_t6
  let v663 : BitVec 32 := Scalar.addi c0_i32_475 arg13
  let v665 : Index := Scalar.indexCast v663
  let c16_477 : Index := 16#32
  ![1, v665.toNat, 16]
def k0_off39 (k0_t6 : Fin k0_t6_loop.trips) : Fin 3 → Nat :=
  let c1_i32_479 : BitVec 32 := 1#32
  let v670 : Index := Scalar.indexCast c1_i32_479
  let c0_i32_478 : BitVec 32 := 0#32
  let c1_i32_280 : BitVec 32 := 1#32
  let c1_i32_282 : BitVec 32 := 1#32
  let arg13 : BitVec 32 := Scf.iv c1_i32_280 c1_i32_282 k0_t6
  let v669 : BitVec 32 := Scalar.addi c0_i32_478 arg13
  let v671 : Index := Scalar.indexCast v669
  let c32_480 : Index := 32#32
  ![1, v671.toNat, 32]
def k0_off40 (k0_t6 : Fin k0_t6_loop.trips) : Fin 3 → Nat :=
  let c1_i32_482 : BitVec 32 := 1#32
  let v676 : Index := Scalar.indexCast c1_i32_482
  let c0_i32_481 : BitVec 32 := 0#32
  let c1_i32_280 : BitVec 32 := 1#32
  let c1_i32_282 : BitVec 32 := 1#32
  let arg13 : BitVec 32 := Scf.iv c1_i32_280 c1_i32_282 k0_t6
  let v675 : BitVec 32 := Scalar.addi c0_i32_481 arg13
  let v677 : Index := Scalar.indexCast v675
  let c48_483 : Index := 48#32
  ![1, v677.toNat, 48]
def k0_off41 (k0_t6 : Fin k0_t6_loop.trips) : Fin 3 → Nat :=
  let c1_i32_485 : BitVec 32 := 1#32
  let v682 : Index := Scalar.indexCast c1_i32_485
  let c0_i32_484 : BitVec 32 := 0#32
  let c1_i32_280 : BitVec 32 := 1#32
  let c1_i32_282 : BitVec 32 := 1#32
  let arg13 : BitVec 32 := Scf.iv c1_i32_280 c1_i32_282 k0_t6
  let v681 : BitVec 32 := Scalar.addi c0_i32_484 arg13
  let v683 : Index := Scalar.indexCast v681
  let c64_486 : Index := 64#32
  ![1, v683.toNat, 64]
def k0_off42 (k0_t6 : Fin k0_t6_loop.trips) : Fin 3 → Nat :=
  let c1_i32_488 : BitVec 32 := 1#32
  let v688 : Index := Scalar.indexCast c1_i32_488
  let c0_i32_487 : BitVec 32 := 0#32
  let c1_i32_280 : BitVec 32 := 1#32
  let c1_i32_282 : BitVec 32 := 1#32
  let arg13 : BitVec 32 := Scf.iv c1_i32_280 c1_i32_282 k0_t6
  let v687 : BitVec 32 := Scalar.addi c0_i32_487 arg13
  let v689 : Index := Scalar.indexCast v687
  let c80_489 : Index := 80#32
  ![1, v689.toNat, 80]
def k0_off43 (k0_t6 : Fin k0_t6_loop.trips) : Fin 3 → Nat :=
  let c1_i32_491 : BitVec 32 := 1#32
  let v694 : Index := Scalar.indexCast c1_i32_491
  let c0_i32_490 : BitVec 32 := 0#32
  let c1_i32_280 : BitVec 32 := 1#32
  let c1_i32_282 : BitVec 32 := 1#32
  let arg13 : BitVec 32 := Scf.iv c1_i32_280 c1_i32_282 k0_t6
  let v693 : BitVec 32 := Scalar.addi c0_i32_490 arg13
  let v695 : Index := Scalar.indexCast v693
  let c96_492 : Index := 96#32
  ![1, v695.toNat, 96]
def k0_off44 (k0_t6 : Fin k0_t6_loop.trips) : Fin 3 → Nat :=
  let c1_i32_494 : BitVec 32 := 1#32
  let v700 : Index := Scalar.indexCast c1_i32_494
  let c0_i32_493 : BitVec 32 := 0#32
  let c1_i32_280 : BitVec 32 := 1#32
  let c1_i32_282 : BitVec 32 := 1#32
  let arg13 : BitVec 32 := Scf.iv c1_i32_280 c1_i32_282 k0_t6
  let v699 : BitVec 32 := Scalar.addi c0_i32_493 arg13
  let v701 : Index := Scalar.indexCast v699
  let c112_495 : Index := 112#32
  ![1, v701.toNat, 112]
@[reducible] def k0_t7_loop : Scf.Loop 32 :=
  let c1_i32_332 : BitVec 32 := 1#32
  let c31_i32_333 : BitVec 32 := 31#32
  let v459 : BitVec 32 := Scalar.addi c1_i32_332 c31_i32_333
  let c1_i32_334 : BitVec 32 := 1#32
  ⟨c1_i32_332, v459, c1_i32_334⟩
def k0_off45 (k0_t7 : Fin k0_t7_loop.trips) : Fin 3 → Nat :=
  let c1_i32_473 : BitVec 32 := 1#32
  let v658 : Index := Scalar.indexCast c1_i32_473
  let c32_i32_472 : BitVec 32 := 32#32
  let c1_i32_332 : BitVec 32 := 1#32
  let c1_i32_334 : BitVec 32 := 1#32
  let arg13 : BitVec 32 := Scf.iv c1_i32_332 c1_i32_334 k0_t7
  let v657 : BitVec 32 := Scalar.addi c32_i32_472 arg13
  let v659 : Index := Scalar.indexCast v657
  let c0_474 : Index := 0#32
  ![1, v659.toNat, 0]
def k0_off46 (k0_t7 : Fin k0_t7_loop.trips) : Fin 3 → Nat :=
  let c1_i32_476 : BitVec 32 := 1#32
  let v664 : Index := Scalar.indexCast c1_i32_476
  let c32_i32_475 : BitVec 32 := 32#32
  let c1_i32_332 : BitVec 32 := 1#32
  let c1_i32_334 : BitVec 32 := 1#32
  let arg13 : BitVec 32 := Scf.iv c1_i32_332 c1_i32_334 k0_t7
  let v663 : BitVec 32 := Scalar.addi c32_i32_475 arg13
  let v665 : Index := Scalar.indexCast v663
  let c16_477 : Index := 16#32
  ![1, v665.toNat, 16]
def k0_off47 (k0_t7 : Fin k0_t7_loop.trips) : Fin 3 → Nat :=
  let c1_i32_479 : BitVec 32 := 1#32
  let v670 : Index := Scalar.indexCast c1_i32_479
  let c32_i32_478 : BitVec 32 := 32#32
  let c1_i32_332 : BitVec 32 := 1#32
  let c1_i32_334 : BitVec 32 := 1#32
  let arg13 : BitVec 32 := Scf.iv c1_i32_332 c1_i32_334 k0_t7
  let v669 : BitVec 32 := Scalar.addi c32_i32_478 arg13
  let v671 : Index := Scalar.indexCast v669
  let c32_480 : Index := 32#32
  ![1, v671.toNat, 32]
def k0_off48 (k0_t7 : Fin k0_t7_loop.trips) : Fin 3 → Nat :=
  let c1_i32_482 : BitVec 32 := 1#32
  let v676 : Index := Scalar.indexCast c1_i32_482
  let c32_i32_481 : BitVec 32 := 32#32
  let c1_i32_332 : BitVec 32 := 1#32
  let c1_i32_334 : BitVec 32 := 1#32
  let arg13 : BitVec 32 := Scf.iv c1_i32_332 c1_i32_334 k0_t7
  let v675 : BitVec 32 := Scalar.addi c32_i32_481 arg13
  let v677 : Index := Scalar.indexCast v675
  let c48_483 : Index := 48#32
  ![1, v677.toNat, 48]
def k0_off49 (k0_t7 : Fin k0_t7_loop.trips) : Fin 3 → Nat :=
  let c1_i32_485 : BitVec 32 := 1#32
  let v682 : Index := Scalar.indexCast c1_i32_485
  let c32_i32_484 : BitVec 32 := 32#32
  let c1_i32_332 : BitVec 32 := 1#32
  let c1_i32_334 : BitVec 32 := 1#32
  let arg13 : BitVec 32 := Scf.iv c1_i32_332 c1_i32_334 k0_t7
  let v681 : BitVec 32 := Scalar.addi c32_i32_484 arg13
  let v683 : Index := Scalar.indexCast v681
  let c64_486 : Index := 64#32
  ![1, v683.toNat, 64]
def k0_off50 (k0_t7 : Fin k0_t7_loop.trips) : Fin 3 → Nat :=
  let c1_i32_488 : BitVec 32 := 1#32
  let v688 : Index := Scalar.indexCast c1_i32_488
  let c32_i32_487 : BitVec 32 := 32#32
  let c1_i32_332 : BitVec 32 := 1#32
  let c1_i32_334 : BitVec 32 := 1#32
  let arg13 : BitVec 32 := Scf.iv c1_i32_332 c1_i32_334 k0_t7
  let v687 : BitVec 32 := Scalar.addi c32_i32_487 arg13
  let v689 : Index := Scalar.indexCast v687
  let c80_489 : Index := 80#32
  ![1, v689.toNat, 80]
def k0_off51 (k0_t7 : Fin k0_t7_loop.trips) : Fin 3 → Nat :=
  let c1_i32_491 : BitVec 32 := 1#32
  let v694 : Index := Scalar.indexCast c1_i32_491
  let c32_i32_490 : BitVec 32 := 32#32
  let c1_i32_332 : BitVec 32 := 1#32
  let c1_i32_334 : BitVec 32 := 1#32
  let arg13 : BitVec 32 := Scf.iv c1_i32_332 c1_i32_334 k0_t7
  let v693 : BitVec 32 := Scalar.addi c32_i32_490 arg13
  let v695 : Index := Scalar.indexCast v693
  let c96_492 : Index := 96#32
  ![1, v695.toNat, 96]
def k0_off52 (k0_t7 : Fin k0_t7_loop.trips) : Fin 3 → Nat :=
  let c1_i32_494 : BitVec 32 := 1#32
  let v700 : Index := Scalar.indexCast c1_i32_494
  let c32_i32_493 : BitVec 32 := 32#32
  let c1_i32_332 : BitVec 32 := 1#32
  let c1_i32_334 : BitVec 32 := 1#32
  let arg13 : BitVec 32 := Scf.iv c1_i32_332 c1_i32_334 k0_t7
  let v699 : BitVec 32 := Scalar.addi c32_i32_493 arg13
  let v701 : Index := Scalar.indexCast v699
  let c112_495 : Index := 112#32
  ![1, v701.toNat, 112]
@[reducible] def k0_t8_loop : Scf.Loop 32 :=
  let c1_i32_384 : BitVec 32 := 1#32
  let c31_i32_385 : BitVec 32 := 31#32
  let v533 : BitVec 32 := Scalar.addi c1_i32_384 c31_i32_385
  let c1_i32_386 : BitVec 32 := 1#32
  ⟨c1_i32_384, v533, c1_i32_386⟩
def k0_off53 (k0_t8 : Fin k0_t8_loop.trips) : Fin 3 → Nat :=
  let c1_i32_473 : BitVec 32 := 1#32
  let v658 : Index := Scalar.indexCast c1_i32_473
  let c64_i32_472 : BitVec 32 := 64#32
  let c1_i32_384 : BitVec 32 := 1#32
  let c1_i32_386 : BitVec 32 := 1#32
  let arg13 : BitVec 32 := Scf.iv c1_i32_384 c1_i32_386 k0_t8
  let v657 : BitVec 32 := Scalar.addi c64_i32_472 arg13
  let v659 : Index := Scalar.indexCast v657
  let c0_474 : Index := 0#32
  ![1, v659.toNat, 0]
def k0_off54 (k0_t8 : Fin k0_t8_loop.trips) : Fin 3 → Nat :=
  let c1_i32_476 : BitVec 32 := 1#32
  let v664 : Index := Scalar.indexCast c1_i32_476
  let c64_i32_475 : BitVec 32 := 64#32
  let c1_i32_384 : BitVec 32 := 1#32
  let c1_i32_386 : BitVec 32 := 1#32
  let arg13 : BitVec 32 := Scf.iv c1_i32_384 c1_i32_386 k0_t8
  let v663 : BitVec 32 := Scalar.addi c64_i32_475 arg13
  let v665 : Index := Scalar.indexCast v663
  let c16_477 : Index := 16#32
  ![1, v665.toNat, 16]
def k0_off55 (k0_t8 : Fin k0_t8_loop.trips) : Fin 3 → Nat :=
  let c1_i32_479 : BitVec 32 := 1#32
  let v670 : Index := Scalar.indexCast c1_i32_479
  let c64_i32_478 : BitVec 32 := 64#32
  let c1_i32_384 : BitVec 32 := 1#32
  let c1_i32_386 : BitVec 32 := 1#32
  let arg13 : BitVec 32 := Scf.iv c1_i32_384 c1_i32_386 k0_t8
  let v669 : BitVec 32 := Scalar.addi c64_i32_478 arg13
  let v671 : Index := Scalar.indexCast v669
  let c32_480 : Index := 32#32
  ![1, v671.toNat, 32]
def k0_off56 (k0_t8 : Fin k0_t8_loop.trips) : Fin 3 → Nat :=
  let c1_i32_482 : BitVec 32 := 1#32
  let v676 : Index := Scalar.indexCast c1_i32_482
  let c64_i32_481 : BitVec 32 := 64#32
  let c1_i32_384 : BitVec 32 := 1#32
  let c1_i32_386 : BitVec 32 := 1#32
  let arg13 : BitVec 32 := Scf.iv c1_i32_384 c1_i32_386 k0_t8
  let v675 : BitVec 32 := Scalar.addi c64_i32_481 arg13
  let v677 : Index := Scalar.indexCast v675
  let c48_483 : Index := 48#32
  ![1, v677.toNat, 48]
def k0_off57 (k0_t8 : Fin k0_t8_loop.trips) : Fin 3 → Nat :=
  let c1_i32_485 : BitVec 32 := 1#32
  let v682 : Index := Scalar.indexCast c1_i32_485
  let c64_i32_484 : BitVec 32 := 64#32
  let c1_i32_384 : BitVec 32 := 1#32
  let c1_i32_386 : BitVec 32 := 1#32
  let arg13 : BitVec 32 := Scf.iv c1_i32_384 c1_i32_386 k0_t8
  let v681 : BitVec 32 := Scalar.addi c64_i32_484 arg13
  let v683 : Index := Scalar.indexCast v681
  let c64_486 : Index := 64#32
  ![1, v683.toNat, 64]
def k0_off58 (k0_t8 : Fin k0_t8_loop.trips) : Fin 3 → Nat :=
  let c1_i32_488 : BitVec 32 := 1#32
  let v688 : Index := Scalar.indexCast c1_i32_488
  let c64_i32_487 : BitVec 32 := 64#32
  let c1_i32_384 : BitVec 32 := 1#32
  let c1_i32_386 : BitVec 32 := 1#32
  let arg13 : BitVec 32 := Scf.iv c1_i32_384 c1_i32_386 k0_t8
  let v687 : BitVec 32 := Scalar.addi c64_i32_487 arg13
  let v689 : Index := Scalar.indexCast v687
  let c80_489 : Index := 80#32
  ![1, v689.toNat, 80]
def k0_off59 (k0_t8 : Fin k0_t8_loop.trips) : Fin 3 → Nat :=
  let c1_i32_491 : BitVec 32 := 1#32
  let v694 : Index := Scalar.indexCast c1_i32_491
  let c64_i32_490 : BitVec 32 := 64#32
  let c1_i32_384 : BitVec 32 := 1#32
  let c1_i32_386 : BitVec 32 := 1#32
  let arg13 : BitVec 32 := Scf.iv c1_i32_384 c1_i32_386 k0_t8
  let v693 : BitVec 32 := Scalar.addi c64_i32_490 arg13
  let v695 : Index := Scalar.indexCast v693
  let c96_492 : Index := 96#32
  ![1, v695.toNat, 96]
def k0_off60 (k0_t8 : Fin k0_t8_loop.trips) : Fin 3 → Nat :=
  let c1_i32_494 : BitVec 32 := 1#32
  let v700 : Index := Scalar.indexCast c1_i32_494
  let c64_i32_493 : BitVec 32 := 64#32
  let c1_i32_384 : BitVec 32 := 1#32
  let c1_i32_386 : BitVec 32 := 1#32
  let arg13 : BitVec 32 := Scf.iv c1_i32_384 c1_i32_386 k0_t8
  let v699 : BitVec 32 := Scalar.addi c64_i32_493 arg13
  let v701 : Index := Scalar.indexCast v699
  let c112_495 : Index := 112#32
  ![1, v701.toNat, 112]
@[reducible] def k0_t9_loop : Scf.Loop 32 :=
  let c1_i32_436 : BitVec 32 := 1#32
  let c31_i32_437 : BitVec 32 := 31#32
  let v607 : BitVec 32 := Scalar.addi c1_i32_436 c31_i32_437
  let c1_i32_438 : BitVec 32 := 1#32
  ⟨c1_i32_436, v607, c1_i32_438⟩
def k0_off61 (k0_t9 : Fin k0_t9_loop.trips) : Fin 3 → Nat :=
  let c1_i32_473 : BitVec 32 := 1#32
  let v658 : Index := Scalar.indexCast c1_i32_473
  let c96_i32_472 : BitVec 32 := 96#32
  let c1_i32_436 : BitVec 32 := 1#32
  let c1_i32_438 : BitVec 32 := 1#32
  let arg13 : BitVec 32 := Scf.iv c1_i32_436 c1_i32_438 k0_t9
  let v657 : BitVec 32 := Scalar.addi c96_i32_472 arg13
  let v659 : Index := Scalar.indexCast v657
  let c0_474 : Index := 0#32
  ![1, v659.toNat, 0]
def k0_off62 (k0_t9 : Fin k0_t9_loop.trips) : Fin 3 → Nat :=
  let c1_i32_476 : BitVec 32 := 1#32
  let v664 : Index := Scalar.indexCast c1_i32_476
  let c96_i32_475 : BitVec 32 := 96#32
  let c1_i32_436 : BitVec 32 := 1#32
  let c1_i32_438 : BitVec 32 := 1#32
  let arg13 : BitVec 32 := Scf.iv c1_i32_436 c1_i32_438 k0_t9
  let v663 : BitVec 32 := Scalar.addi c96_i32_475 arg13
  let v665 : Index := Scalar.indexCast v663
  let c16_477 : Index := 16#32
  ![1, v665.toNat, 16]
def k0_off63 (k0_t9 : Fin k0_t9_loop.trips) : Fin 3 → Nat :=
  let c1_i32_479 : BitVec 32 := 1#32
  let v670 : Index := Scalar.indexCast c1_i32_479
  let c96_i32_478 : BitVec 32 := 96#32
  let c1_i32_436 : BitVec 32 := 1#32
  let c1_i32_438 : BitVec 32 := 1#32
  let arg13 : BitVec 32 := Scf.iv c1_i32_436 c1_i32_438 k0_t9
  let v669 : BitVec 32 := Scalar.addi c96_i32_478 arg13
  let v671 : Index := Scalar.indexCast v669
  let c32_480 : Index := 32#32
  ![1, v671.toNat, 32]
def k0_off64 (k0_t9 : Fin k0_t9_loop.trips) : Fin 3 → Nat :=
  let c1_i32_482 : BitVec 32 := 1#32
  let v676 : Index := Scalar.indexCast c1_i32_482
  let c96_i32_481 : BitVec 32 := 96#32
  let c1_i32_436 : BitVec 32 := 1#32
  let c1_i32_438 : BitVec 32 := 1#32
  let arg13 : BitVec 32 := Scf.iv c1_i32_436 c1_i32_438 k0_t9
  let v675 : BitVec 32 := Scalar.addi c96_i32_481 arg13
  let v677 : Index := Scalar.indexCast v675
  let c48_483 : Index := 48#32
  ![1, v677.toNat, 48]
def k0_off65 (k0_t9 : Fin k0_t9_loop.trips) : Fin 3 → Nat :=
  let c1_i32_485 : BitVec 32 := 1#32
  let v682 : Index := Scalar.indexCast c1_i32_485
  let c96_i32_484 : BitVec 32 := 96#32
  let c1_i32_436 : BitVec 32 := 1#32
  let c1_i32_438 : BitVec 32 := 1#32
  let arg13 : BitVec 32 := Scf.iv c1_i32_436 c1_i32_438 k0_t9
  let v681 : BitVec 32 := Scalar.addi c96_i32_484 arg13
  let v683 : Index := Scalar.indexCast v681
  let c64_486 : Index := 64#32
  ![1, v683.toNat, 64]
def k0_off66 (k0_t9 : Fin k0_t9_loop.trips) : Fin 3 → Nat :=
  let c1_i32_488 : BitVec 32 := 1#32
  let v688 : Index := Scalar.indexCast c1_i32_488
  let c96_i32_487 : BitVec 32 := 96#32
  let c1_i32_436 : BitVec 32 := 1#32
  let c1_i32_438 : BitVec 32 := 1#32
  let arg13 : BitVec 32 := Scf.iv c1_i32_436 c1_i32_438 k0_t9
  let v687 : BitVec 32 := Scalar.addi c96_i32_487 arg13
  let v689 : Index := Scalar.indexCast v687
  let c80_489 : Index := 80#32
  ![1, v689.toNat, 80]
def k0_off67 (k0_t9 : Fin k0_t9_loop.trips) : Fin 3 → Nat :=
  let c1_i32_491 : BitVec 32 := 1#32
  let v694 : Index := Scalar.indexCast c1_i32_491
  let c96_i32_490 : BitVec 32 := 96#32
  let c1_i32_436 : BitVec 32 := 1#32
  let c1_i32_438 : BitVec 32 := 1#32
  let arg13 : BitVec 32 := Scf.iv c1_i32_436 c1_i32_438 k0_t9
  let v693 : BitVec 32 := Scalar.addi c96_i32_490 arg13
  let v695 : Index := Scalar.indexCast v693
  let c96_492 : Index := 96#32
  ![1, v695.toNat, 96]
def k0_off68 (k0_t9 : Fin k0_t9_loop.trips) : Fin 3 → Nat :=
  let c1_i32_494 : BitVec 32 := 1#32
  let v700 : Index := Scalar.indexCast c1_i32_494
  let c96_i32_493 : BitVec 32 := 96#32
  let c1_i32_436 : BitVec 32 := 1#32
  let c1_i32_438 : BitVec 32 := 1#32
  let arg13 : BitVec 32 := Scf.iv c1_i32_436 c1_i32_438 k0_t9
  let v699 : BitVec 32 := Scalar.addi c96_i32_493 arg13
  let v701 : Index := Scalar.indexCast v699
  let c112_495 : Index := 112#32
  ![1, v701.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000x32 : Shape := ⟨2, ![10000, 32]⟩
abbrev S1x128 : Shape := ⟨2, ![1, 128]⟩
abbrev S_ : Shape := ⟨0, ![]⟩
abbrev S10001x128 : Shape := ⟨2, ![10001, 128]⟩
abbrev S10000x32x1 : Shape := ⟨3, ![10000, 32, 1]⟩
abbrev S1 : Shape := ⟨1, ![1]⟩
abbrev S1x1x1 : Shape := ⟨3, ![1, 1, 1]⟩
abbrev S10000x32x128 : Shape := ⟨3, ![10000, 32, 128]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32, .i32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S10001x128, .f32⟩
  | .hbm, ⟨6, _⟩ => ⟨S_, .i32⟩
  | .hbm, ⟨7, _⟩ => ⟨S10000x32, .i32⟩
  | .hbm, ⟨8, _⟩ => ⟨S10000x32, .i1⟩
  | .hbm, ⟨9, _⟩ => ⟨S_, .i32⟩
  | .hbm, ⟨10, _⟩ => ⟨S10000x32, .i32⟩
  | .hbm, ⟨11, _⟩ => ⟨S10000x32, .i32⟩
  | .hbm, ⟨12, _⟩ => ⟨S10000x32, .i32⟩
  | .hbm, ⟨13, _⟩ => ⟨S10000x32x1, .i32⟩
  | .hbm, ⟨14, _⟩ => ⟨S1, .i32⟩
  | .hbm, ⟨15, _⟩ => ⟨S_, .i32⟩
  | .hbm, ⟨16, _⟩ => ⟨S10000x32x1, .i32⟩
  | .hbm, ⟨17, _⟩ => ⟨S10000x32x1, .i1⟩
  | .hbm, ⟨18, _⟩ => ⟨S1x1x1, .i32⟩
  | .hbm, ⟨19, _⟩ => ⟨S10000x32x1, .i32⟩
  | .hbm, ⟨20, _⟩ => ⟨S10000x32x1, .i1⟩
  | .hbm, ⟨21, _⟩ => ⟨S10000x32x1, .i1⟩
  | .hbm, ⟨22, _⟩ => ⟨S_, .i1⟩
  | .hbm, ⟨23, _⟩ => ⟨S10000x32, .i1⟩
  | .hbm, ⟨24, _⟩ => ⟨S10000x32x128, .f32⟩
  | .hbm, ⟨25, _⟩ => ⟨S10000x32x128, .i1⟩
  | .hbm, ⟨26, _⟩ => ⟨S_, .f32⟩
  | .hbm, ⟨27, _⟩ => ⟨S10000x32x128, .f32⟩
  | .hbm, ⟨28, _⟩ => ⟨S10000x32x128, .f32⟩
  | .hbm, ⟨29, _⟩ => ⟨S_, .f32⟩
  | .hbm, ⟨30, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Program.lean ====
/-
  The kernel's task, written as the steps a reader would name. The printed body is cut into parts by statement count;
  here one trip of its loop over pairs of chunks is the same program spelt as: start the gather of the odd chunk, wait for
  the even one, wait for the copy out that used the even slot, compute the four rows of the even chunk, start their copy
  out, and the same again with the two slots exchanged (`trip`, `trip_eq`). Computing one row (`rowProg`) is one program
  at eight places.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.SL Idealize.SL.Sem

variable {F : FTy → Type} [FloatOps F]

/-- The table of features, the padded neighbour lists and the padded result, as a tile addresses them; -/
abbrev xV : Memref sig .scVector .hbm S10000x128 .f32 := Memref.whole main_arg0_scv
abbrev iV : Memref sig .scVector .hbm S2560x128 .i32 := Memref.whole main_v1_scv
abbrev oV : Memref sig .scVector .hbm S10240x128 .f32 := Memref.whole main_v2_scv
/-- and a tile's own buffers: its neighbour lists, the two slots of gathered rows, the two slots of results. -/
abbrev sV : Memref sig .scVector .vmem S80x128 .i32 := Memref.whole cc0_scratch0
abbrev rV : Memref sig .scVector .vmem S2x128x128 .f32 := Memref.whole cc0_scratch1
abbrev uV : Memref sig .scVector .vmem S2x4x128 .f32 := Memref.whole cc0_scratch2

/-- Programs of the vector subcore that the coordinates name. -/
abbrev PR (i : grid0.Coords) (α : Type) : Type 1 :=
  Prog (TpuEff nD τ sig (Elt F) Λ₀ (.scVector ((i 0).castLE hcore0) ((i 1).castLE hsub0))) α

/-- Eight groups of sixteen lanes: one row of features. -/
abbrev A8 : Type :=
  FVec F S16 .f32 × FVec F S16 .f32 × FVec F S16 .f32 × FVec F S16 .f32 × FVec F S16 .f32 × FVec F S16 .f32 × FVec F S16 .f32 × FVec F S16 .f32

/-- Sixteen lanes of a gathered row. -/
def ldRow (i : grid0.Coords) (o : Fin 3 → ℕ) (h : ∀ a, o a + S1x1x16.size a ≤ S2x128x128.size a) : PR (F := F) i (Vec F S1x1x16 .f32) :=
  Prog.lift (.load rV (Rect.unit (s := S2x128x128) o S1x1x16.size h).toLoadRect (View.loadsAt_vmem h_S1x1x16))

/-- Sixteen lanes of a result stored; before that they are loaded, and the loaded value is not used. -/
def ldOut (i : grid0.Coords) (o : Fin 3 → ℕ) (h : ∀ a, o a + S1x1x16.size a ≤ S2x4x128.size a) : PR (F := F) i (Vec F S1x1x16 .f32) :=
  Prog.lift (.load uV (Rect.unit (s := S2x4x128) o S1x1x16.size h).toLoadRect (View.loadsAt_vmem h_S1x1x16))
def stOnly (i : grid0.Coords) (o : Fin 3 → ℕ) (h : ∀ a, o a + S1x1x16.size a ≤ S2x4x128.size a) (w : FVec F S16 .f32) : PR (F := F) i PUnit :=
  Prog.lift (.store uV (Rect.unit (s := S2x4x128) o S1x1x16.size h) (k0_pay59 w) Finset.univ (View.stores_vmem_bits_univ h_S1x1x16 rfl) (.inl rfl))
def stOut (i : grid0.Coords) (o : Fin 3 → ℕ) (h : ∀ a, o a + S1x1x16.size a ≤ S2x4x128.size a) (w : FVec F S16 .f32) : PR (F := F) i PUnit := do
  let _v ← ldOut i o h
  stOnly i o h w

theorem inbR (b : Fin 2) (k : Fin 128) (q : Fin 8) : ∀ a, (![b.val, k.val, 16 * q.val] : Fin 3 → ℕ) a + S1x1x16.size a ≤ S2x128x128.size a := by
  intro a; fin_cases a <;> simp [S1x1x16, S2x128x128] <;> omega
theorem inbU (b : Fin 2) (r : Fin 4) (q : Fin 8) : ∀ a, (![b.val, r.val, 16 * q.val] : Fin 3 → ℕ) a + S1x1x16.size a ≤ S2x4x128.size a := by
  intro a; fin_cases a <;> simp [S1x1x16, S2x4x128] <;> omega

/-- One trip of a row's loop: the row's eight groups of lanes, each replaced by its maximum with a neighbour's. -/
def rowBody (i : grid0.Coords) (o : Fin 8 → Fin 3 → ℕ) (h : ∀ q a, o q a + S1x1x16.size a ≤ S2x128x128.size a) : A8 (F := F) → PR (F := F) i (A8 (F := F)) :=
  fun (a0, a1, a2, a3, a4, a5, a6, a7) => do
    let v0 ← ldRow i (o 0) (h 0)
    let v1 ← ldRow i (o 1) (h 1)
    let v2 ← ldRow i (o 2) (h 2)
    let v3 ← ldRow i (o 3) (h 3)
    let v4 ← ldRow i (o 4) (h 4)
    let v5 ← ldRow i (o 5) (h 5)
    let v6 ← ldRow i (o 6) (h 6)
    let v7 ← ldRow i (o 7) (h 7)
    pure (k0_pay57 a0 v0, k0_pay57 a1 v1, k0_pay57 a2 v2, k0_pay57 a3 v3, k0_pay57 a4 v4, k0_pay57 a5 v5, k0_pay57 a6 v6, k0_pay57 a7 v7)

/-- Row `r` of slot `b`: its first neighbour's features, the maximum with the thirty-one others', and the row stored. -/
def rowProg (i : grid0.Coords) (b : Fin 2) (r : Fin 4) (o : Fin k0_t2_loop.trips → Fin 8 → Fin 3 → ℕ)
    (h : ∀ t q a, o t q a + S1x1x16.size a ≤ S2x128x128.size a) : PR (F := F) i PUnit := do
  let v0 ← ldRow i ![b.val, (32 * r.val), 16 * (0 : Fin 8).val] (inbR b ⟨32 * r.val, by omega⟩ 0)
  let v1 ← ldRow i ![b.val, (32 * r.val), 16 * (1 : Fin 8).val] (inbR b ⟨32 * r.val, by omega⟩ 1)
  let v2 ← ldRow i ![b.val, (32 * r.val), 16 * (2 : Fin 8).val] (inbR b ⟨32 * r.val, by omega⟩ 2)
  let v3 ← ldRow i ![b.val, (32 * r.val), 16 * (3 : Fin 8).val] (inbR b ⟨32 * r.val, by omega⟩ 3)
  let v4 ← ldRow i ![b.val, (32 * r.val), 16 * (4 : Fin 8).val] (inbR b ⟨32 * r.val, by omega⟩ 4)
  let v5 ← ldRow i ![b.val, (32 * r.val), 16 * (5 : Fin 8).val] (inbR b ⟨32 * r.val, by omega⟩ 5)
  let v6 ← ldRow i ![b.val, (32 * r.val), 16 * (6 : Fin 8).val] (inbR b ⟨32 * r.val, by omega⟩ 6)
  let v7 ← ldRow i ![b.val, (32 * r.val), 16 * (7 : Fin 8).val] (inbR b ⟨32 * r.val, by omega⟩ 7)
  let (a0, a1, a2, a3, a4, a5, a6, a7) ← Scf.Loop.for k0_t2_loop k0_t2_ok
    (k0_pay52 v0, k0_pay52 v1, k0_pay52 v2, k0_pay52 v3, k0_pay52 v4, k0_pay52 v5, k0_pay52 v6, k0_pay52 v7)
    (fun t => rowBody i (o t) (h t))
  stOut i ![b.val, r.val, 16 * (0 : Fin 8).val] (inbU b r 0) a0
  stOut i ![b.val, r.val, 16 * (1 : Fin 8).val] (inbU b r 1) a1
  stOut i ![b.val, r.val, 16 * (2 : Fin 8).val] (inbU b r 2) a2
  stOut i ![b.val, r.val, 16 * (3 : Fin 8).val] (inbU b r 3) a3
  stOut i ![b.val, r.val, 16 * (4 : Fin 8).val] (inbU b r 4) a4
  stOut i ![b.val, r.val, 16 * (5 : Fin 8).val] (inbU b r 5) a5
  stOut i ![b.val, r.val, 16 * (6 : Fin 8).val] (inbU b r 6) a6
  stOut i ![b.val, r.val, 16 * (7 : Fin 8).val] (inbU b r 7) a7

/-- The lanes that each row's loop reads, as the program computes them: row `r` of slot `b`, trip `t`, group `q`. -/
def rawOff (b : Fin 2) (r : Fin 4) (t : Fin k0_t2_loop.trips) (q : Fin 8) : Fin 3 → ℕ :=
  match b, r with
  | 0, 0 => ![k0_off3 t, k0_off4 t, k0_off5 t, k0_off6 t, k0_off7 t, k0_off8 t, k0_off9 t, k0_off10 t] q
  | 0, 1 => ![k0_off11 t, k0_off12 t, k0_off13 t, k0_off14 t, k0_off15 t, k0_off16 t, k0_off17 t, k0_off18 t] q
  | 0, 2 => ![k0_off19 t, k0_off20 t, k0_off21 t, k0_off22 t, k0_off23 t, k0_off24 t, k0_off25 t, k0_off26 t] q
  | 0, 3 => ![k0_off27 t, k0_off28 t, k0_off29 t, k0_off30 t, k0_off31 t, k0_off32 t, k0_off33 t, k0_off34 t] q
  | 1, 0 => ![k0_off37 t, k0_off38 t, k0_off39 t, k0_off40 t, k0_off41 t, k0_off42 t, k0_off43 t, k0_off44 t] q
  | 1, 1 => ![k0_off45 t, k0_off46 t, k0_off47 t, k0_off48 t, k0_off49 t, k0_off50 t, k0_off51 t, k0_off52 t] q
  | 1, 2 => ![k0_off53 t, k0_off54 t, k0_off55 t, k0_off56 t, k0_off57 t, k0_off58 t, k0_off59 t, k0_off60 t] q
  | 1, 3 => ![k0_off61 t, k0_off62 t, k0_off63 t, k0_off64 t, k0_off65 t, k0_off66 t, k0_off67 t, k0_off68 t] q

/-- In closed form: entry `32 r + 1 + t` of the slot, lanes `16 q` to `16 q + 15`. -/
theorem rawOff_eq (b : Fin 2) (r : Fin 4) (t : Fin k0_t2_loop.trips) (q : Fin 8) : rawOff b r t q = ![b.val, 32 * r.val + 1 + t.val, 16 * q.val] := by
  have ht : t.val < 31 := lt_of_lt_of_le t.isLt k0_t2_abs.2.1
  match b, r with
  | 0, 0 =>
    match q with
    | 0 => exact (k0_off3_eq t).trans (by simp; omega)
    | 1 => exact (k0_off4_eq t).trans (by simp; omega)
    | 2 => exact (k0_off5_eq t).trans (by simp; omega)
    | 3 => exact (k0_off6_eq t).trans (by simp; omega)
    | 4 => exact (k0_off7_eq t).trans (by simp; omega)
    | 5 => exact (k0_off8_eq t).trans (by simp; omega)
    | 6 => exact (k0_off9_eq t).trans (by simp; omega)
    | 7 => exact (k0_off10_eq t).trans (by simp; omega)
  | 0, 1 =>
    match q with
    | 0 => exact (k0_off11_eq t).trans (by simp; omega)
    | 1 => exact (k0_off12_eq t).trans (by simp; omega)
    | 2 => exact (k0_off13_eq t).trans (by simp; omega)
    | 3 => exact (k0_off14_eq t).trans (by simp; omega)
    | 4 => exact (k0_off15_eq t).trans (by simp; omega)
    | 5 => exact (k0_off16_eq t).trans (by simp; omega)
    | 6 => exact (k0_off17_eq t).trans (by simp; omega)
    | 7 => exact (k0_off18_eq t).trans (by simp; omega)
  | 0, 2 =>
    match q with
    | 0 => exact (k0_off19_eq t).trans (by simp; omega)
    | 1 => exact (k0_off20_eq t).trans (by simp; omega)
    | 2 => exact (k0_off21_eq t).trans (by simp; omega)
    | 3 => exact (k0_off22_eq t).trans (by simp; omega)
    | 4 => exact (k0_off23_eq t).trans (by simp; omega)
    | 5 => exact (k0_off24_eq t).trans (by simp; omega)
    | 6 => exact (k0_off25_eq t).trans (by simp; omega)
    | 7 => exact (k0_off26_eq t).trans (by simp; omega)
  | 0, 3 =>
    match q with
    | 0 => exact (k0_off27_eq t).trans (by simp; omega)
    | 1 => exact (k0_off28_eq t).trans (by simp; omega)
    | 2 => exact (k0_off29_eq t).trans (by simp; omega)
    | 3 => exact (k0_off30_eq t).trans (by simp; omega)
    | 4 => exact (k0_off31_eq t).trans (by simp; omega)
    | 5 => exact (k0_off32_eq t).trans (by simp; omega)
    | 6 => exact (k0_off33_eq t).trans (by simp; omega)
    | 7 => exact (k0_off34_eq t).trans (by simp; omega)
  | 1, 0 =>
    match q with
    | 0 => exact (k0_off37_eq t).trans (by simp; omega)
    | 1 => exact (k0_off38_eq t).trans (by simp; omega)
    | 2 => exact (k0_off39_eq t).trans (by simp; omega)
    | 3 => exact (k0_off40_eq t).trans (by simp; omega)
    | 4 => exact (k0_off41_eq t).trans (by simp; omega)
    | 5 => exact (k0_off42_eq t).trans (by simp; omega)
    | 6 => exact (k0_off43_eq t).trans (by simp; omega)
    | 7 => exact (k0_off44_eq t).trans (by simp; omega)
  | 1, 1 =>
    match q with
    | 0 => exact (k0_off45_eq t).trans (by simp; omega)
    | 1 => exact (k0_off46_eq t).trans (by simp; omega)
    | 2 => exact (k0_off47_eq t).trans (by simp; omega)
    | 3 => exact (k0_off48_eq t).trans (by simp; omega)
    | 4 => exact (k0_off49_eq t).trans (by simp; omega)
    | 5 => exact (k0_off50_eq t).trans (by simp; omega)
    | 6 => exact (k0_off51_eq t).trans (by simp; omega)
    | 7 => exact (k0_off52_eq t).trans (by simp; omega)
  | 1, 2 =>
    match q with
    | 0 => exact (k0_off53_eq t).trans (by simp; omega)
    | 1 => exact (k0_off54_eq t).trans (by simp; omega)
    | 2 => exact (k0_off55_eq t).trans (by simp; omega)
    | 3 => exact (k0_off56_eq t).trans (by simp; omega)
    | 4 => exact (k0_off57_eq t).trans (by simp; omega)
    | 5 => exact (k0_off58_eq t).trans (by simp; omega)
    | 6 => exact (k0_off59_eq t).trans (by simp; omega)
    | 7 => exact (k0_off60_eq t).trans (by simp; omega)
  | 1, 3 =>
    match q with
    | 0 => exact (k0_off61_eq t).trans (by simp; omega)
    | 1 => exact (k0_off62_eq t).trans (by simp; omega)
    | 2 => exact (k0_off63_eq t).trans (by simp; omega)
    | 3 => exact (k0_off64_eq t).trans (by simp; omega)
    | 4 => exact (k0_off65_eq t).trans (by simp; omega)
    | 5 => exact (k0_off66_eq t).trans (by simp; omega)
    | 6 => exact (k0_off67_eq t).trans (by simp; omega)
    | 7 => exact (k0_off68_eq t).trans (by simp; omega)

theorem rawOff_inb (b : Fin 2) (r : Fin 4) (t : Fin k0_t2_loop.trips) (q : Fin 8) (a : Fin 3) :
    rawOff b r t q a + S1x1x16.size a ≤ S2x128x128.size a := by
  have ht : t.val < 31 := lt_of_lt_of_le t.isLt k0_t2_abs.2.1
  rw [rawOff_eq]; exact inbR b ⟨32 * r.val + 1 + t.val, by omega⟩ q a

/-- The whole table; slot `b` of the gathered rows; a row of the tile's neighbour lists; slot `b` of the results; four
    rows of the padded result. -/
abbrev tabM : Memref sig .scVector .hbm S10000x128 .f32 :=
  xV.slice (Rect.unit (s := S10000x128) ![0, 0] S10000x128.size inb_S10000x128_S10000x128_0_0) (fun _ => rfl)
theorem inbSlot (b : Fin 2) : ∀ a, (![b.val, 0, 0] : Fin 3 → ℕ) a + S1x128x128.size a ≤ S2x128x128.size a := by
  intro a; fin_cases a <;> simp [S1x128x128, S2x128x128] ; omega
theorem inbRes (b : Fin 2) : ∀ a, (![b.val, 0, 0] : Fin 3 → ℕ) a + S1x4x128.size a ≤ S2x4x128.size a := by
  intro a; fin_cases a <;> simp [S1x4x128, S2x4x128] ; omega
abbrev slotM (b : Fin 2) : Memref sig .scVector .vmem S128x128 .f32 :=
  (rV.slice (Rect.unit (s := S2x128x128) ![b.val, 0, 0] S1x128x128.size (inbSlot b)) (fun _ => rfl)).squeeze S128x128 squeezes_S1x128x128_S128x128
abbrev listM (o : Fin 2 → ℕ) (h : ∀ a, o a + S1x128.size a ≤ S80x128.size a) : Memref sig .scVector .vmem S128 .i32 :=
  (sV.slice (Rect.unit (s := S80x128) o S1x128.size h) (fun _ => rfl)).squeeze S128 squeezes_S1x128_S128
abbrev resM (b : Fin 2) : Memref sig .scVector .vmem S4x128 .f32 :=
  (uV.slice (Rect.unit (s := S2x4x128) ![b.val, 0, 0] S1x4x128.size (inbRes b)) (fun _ => rfl)).squeeze S4x128 squeezes_S1x4x128_S4x128
abbrev outM (o : Fin 2 → ℕ) (h : ∀ a, o a + S4x128.size a ≤ S10240x128.size a) : Memref sig .scVector .hbm S4x128 .f32 :=
  oV.slice (Rect.unit (s := S10240x128) o S4x128.size h) (fun _ => rfl)

/-- Start gathering the table's rows that one list names into slot `b`; wait for it. -/
def gather (i : grid0.Coords) (b : Fin 2) (o : Fin 2 → ℕ) (h : ∀ a, o a + S1x128.size a ≤ S80x128.size a) (sem : DmaSems sig S_) : PR (F := F) i PUnit :=
  SparseCore.enqueueIndirectGather rfl tabM (slotM b) gathers_S10000x128_S128x128 (listM o h) rfl sem.sem (View.wordExact_bits rfl) rfl (Or.inl rfl)
def waitGather (i : grid0.Coords) (b : Fin 2) (sem : DmaSems sig S_) : PR (F := F) i PUnit :=
  SparseCore.waitIndirectGather sem.sem tabM (slotM b) (View.wordExact_bits rfl) ((View.wordExact_bits rfl).reshape _ _)
/-- Start the copy of the results in slot `b` to four rows of the padded result; wait for one. -/
def putOut (i : grid0.Coords) (b : Fin 2) (o : Fin 2 → ℕ) (h : ∀ a, o a + S4x128.size a ≤ S10240x128.size a) (sem : DmaSems sig S_) : PR (F := F) i PUnit :=
  Prog.lift (.enqueueDma (resM b) (.here (outM o h)) (.dma sem.sem) ((View.wordExact_bits rfl).reshape _ _) (View.wordExact_bits rfl) ⟨Or.inl rfl, trivial⟩)
def waitOut (i : grid0.Coords) (b : Fin 2) (sem : DmaSems sig S_) : PR (F := F) i PUnit :=
  Prog.lift (.waitDma2 sem.sem (resM b) (outM ![0, 0] inb_S10240x128_S4x128_0_0) ((View.wordExact_bits rfl).reshape _ _) (View.wordExact_bits rfl))

/-- The four rows of the chunk in slot `b`. -/
def chunkProg (i : grid0.Coords) (b : Fin 2) : PR (F := F) i PUnit := do
  rowProg i b 0 (rawOff b 0) (rawOff_inb b 0)
  rowProg i b 1 (rawOff b 1) (rawOff_inb b 1)
  rowProg i b 2 (rawOff b 2) (rawOff_inb b 2)
  rowProg i b 3 (rawOff b 3) (rawOff_inb b 3)

/-- The conditions under which trip `t` waits for the copy out of the trip before: its chunk `2 t + b` is at least 2. -/
def condOut (b : Fin 2) (t : Fin k0_t1_loop.trips) : BitVec 1 :=
  Scalar.cmpi .ne (Scalar.extui (Scalar.cmpi .sge (Scalar.addi (Scalar.addi 0#32 (Scalar.muli (Scf.iv 0#32 1#32 t) 2#32)) (BitVec.ofNat 32 b.val)) 2#32) : BitVec 32) 0#32

/-- Start the gather of trip `t`'s odd chunk into slot 1, and of the next trip's even chunk into slot 0, if there is one. -/
def startOdd (i : grid0.Coords) (t : Fin k0_t1_loop.trips) : PR (F := F) i PUnit :=
  if h : k0_cond1 t = 1#1 then gather i 1 (k0_off2 t) (k0_off2_inb t h) cc0_scratch4 else .ret ⟨⟩
def startEven (i : grid0.Coords) (t : Fin k0_t1_loop.trips) : PR (F := F) i PUnit :=
  if h : k0_cond3 t = 1#1 then gather i 0 (k0_off36 t) (k0_off36_inb t h) cc0_scratch3 else .ret ⟨⟩
/-- Wait for the copy out of slot `b` that the trip before started, if there was one. -/
def waitPrev (i : grid0.Coords) (b : Fin 2) (t : Fin k0_t1_loop.trips) (sem : DmaSems sig S_) : PR (F := F) i PUnit :=
  if condOut b t = 1#1 then waitOut i b sem else .ret ⟨⟩

/-- One trip of the loop over pairs of chunks. -/
def trip (i : grid0.Coords) (t : Fin k0_t1_loop.trips) : PR (F := F) i PUnit := do
  startOdd i t
  waitGather i 0 cc0_scratch3
  waitPrev i 0 t cc0_scratch5
  chunkProg i 0
  putOut i 0 (k0_off35 i t (BitVec.ofNat 32 (0 : Fin 2).val)) (k0_off35_inb i t 0) cc0_scratch5
  startEven i t
  waitGather i 1 cc0_scratch4
  waitPrev i 1 t cc0_scratch6
  chunkProg i 1
  putOut i 1 (k0_off35 i t (BitVec.ofNat 32 (1 : Fin 2).val)) (k0_off35_inb i t 1) cc0_scratch6

/-- What follows a conditional with nothing to do on one side may be taken out of its branches. -/
theorem dite_bind {E : Type → Type _} {α : Type} {c : Prop} [Decidable c] (A : c → Prog E PUnit) (k : PUnit → Prog E α) :
    (if h : c then (A h).bind k else k ⟨⟩) = (if h : c then A h else .ret ⟨⟩).bind k := by
  by_cases h : c
  · rw [dif_pos h, dif_pos h]
  · rw [dif_neg h, dif_neg h]; rfl

/-! The three printed parts that hold a conditional, with what follows the conditional taken out of its branches. -/

theorem part9_eq (i : grid0.Coords) (t : Fin k0_t1_loop.trips) :
    k0_part9 (F := F) i xV (Memref.isWhole_whole _) iV (Memref.isWhole_whole _) oV (Memref.isWhole_whole _) sV (Memref.isWhole_whole _)
      rV (Memref.isWhole_whole _) uV (Memref.isWhole_whole _) cc0_scratch3 cc0_scratch4 cc0_scratch5 cc0_scratch6 cc0_scoped0 0#32 1#32 t
      = (do
        startOdd i t
        waitGather i 0 cc0_scratch3
        waitPrev i 0 t cc0_scratch5
        let v0 ← ldRow i ![0, 0, 0] (inbR 0 0 0)
        let v1 ← ldRow i ![0, 0, 16] (inbR 0 0 1)
        let v2 ← ldRow i ![0, 0, 32] (inbR 0 0 2)
        pure ⟨Scalar.addi 0#32 (Scalar.muli (Scf.iv 0#32 1#32 t) 2#32), Scalar.addi (Scalar.addi 0#32 (Scalar.muli (Scf.iv 0#32 1#32 t) 2#32)) 0#32,
          k0_pay49 v0, k0_pay50 v1, k0_pay51 v2⟩) := by
  rw [k0_part9_eq_skeleton]; unfold k0_part9_skel startOdd waitPrev
  refine (dite_bind (c := k0_cond1 t = 1#1) (fun h => gather i 1 (k0_off2 t) (k0_off2_inb t h) cc0_scratch4) _).trans ?_
  refine congrArg (Prog.bind _) (funext fun _ => ?_)
  refine congrArg (Prog.bind _) (funext fun _ => ?_)
  exact dite_bind (c := condOut 0 t = 1#1) (fun _ => waitOut i 0 cc0_scratch5) _

theorem part18_eq (i : grid0.Coords) (t : Fin k0_t1_loop.trips) (v2 v22 v23 : BitVec 32) (w4 w5 w6 w7 : FVec F S16 .f32) (v : Vec F S1x1x16 .f32) :
    k0_part18 (F := F) i xV (Memref.isWhole_whole _) iV (Memref.isWhole_whole _) oV (Memref.isWhole_whole _) sV (Memref.isWhole_whole _)
      rV (Memref.isWhole_whole _) uV (Memref.isWhole_whole _) cc0_scratch3 cc0_scratch4 cc0_scratch5 cc0_scratch6 cc0_scoped0 v2 t v22 v23 w4 w5 w6 w7 v
      = (do
        stOnly i ![0, 3, 64] (inbU 0 3 4) w4
        let _v ← ldOut i ![0, 3, 80] (inbU 0 3 5)
        stOnly i ![0, 3, 80] (inbU 0 3 5) w5
        let _v ← ldOut i ![0, 3, 96] (inbU 0 3 6)
        stOnly i ![0, 3, 96] (inbU 0 3 6) w6
        let _v ← ldOut i ![0, 3, 112] (inbU 0 3 7)
        stOnly i ![0, 3, 112] (inbU 0 3 7) w7
        putOut i 0 (k0_off35 i t (BitVec.ofNat 32 (0 : Fin 2).val)) (k0_off35_inb i t 0) cc0_scratch5
        startEven i t
        pure (Scalar.addi v22 1#32)) := by
  rw [k0_part18_eq_skeleton]; unfold k0_part18_skel startEven
  iterate 8 refine congrArg (Prog.bind _) (funext fun _ => ?_)
  exact dite_bind (c := k0_cond3 t = 1#1) (fun h => gather i 0 (k0_off36 t) (k0_off36_inb t h) cc0_scratch3) _

theorem part19_eq (i : grid0.Coords) (t : Fin k0_t1_loop.trips) :
    k0_part19 (F := F) i xV (Memref.isWhole_whole _) iV (Memref.isWhole_whole _) oV (Memref.isWhole_whole _) sV (Memref.isWhole_whole _)
      rV (Memref.isWhole_whole _) uV (Memref.isWhole_whole _) cc0_scratch3 cc0_scratch4 cc0_scratch5 cc0_scratch6 cc0_scoped0
      (Scalar.addi (Scalar.addi 0#32 (Scalar.muli (Scf.iv 0#32 1#32 t) 2#32)) 1#32)
      = (do
        waitGather i 1 cc0_scratch4
        waitPrev i 1 t cc0_scratch6
        let v0 ← ldRow i ![1, 0, 0] (inbR 1 0 0)
        let v1 ← ldRow i ![1, 0, 16] (inbR 1 0 1)
        let v2 ← ldRow i ![1, 0, 32] (inbR 1 0 2)
        let v3 ← ldRow i ![1, 0, 48] (inbR 1 0 3)
        let v4 ← ldRow i ![1, 0, 64] (inbR 1 0 4)
        let v5 ← ldRow i ![1, 0, 80] (inbR 1 0 5)
        pure ⟨k0_pay121 v0, k0_pay122 v1, k0_pay123 v2, k0_pay124 v3, k0_pay125 v4, k0_pay126 v5, 1#32, 0#32⟩) := by
  rw [k0_part19_eq_skeleton]; unfold k0_part19_skel waitPrev
  refine congrArg (Prog.bind _) (funext fun _ => ?_)
  exact dite_bind (c := condOut 1 t = 1#1) (fun _ => waitOut i 1 cc0_scratch6) _

set_option maxRecDepth 65536 in
/-- The body of the loop over pairs of chunks is `trip`. -/
theorem trip_eq (i : grid0.Coords) (t : Fin k0_t1_loop.trips) (v2 : BitVec 32) :
    k0_t1_body (F := F) i xV (Memref.isWhole_whole _) iV (Memref.isWhole_whole _) oV (Memref.isWhole_whole _) sV (Memref.isWhole_whole _)
      rV (Memref.isWhole_whole _) uV (Memref.isWhole_whole _) cc0_scratch3 cc0_scratch4 cc0_scratch5 cc0_scratch6 cc0_scoped0 v2 t ⟨⟩
      = trip i t := by
  unfold k0_t1_body
  simp only [part9_eq, part18_eq, part19_eq, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, bind_assoc, pure_bind]
  unfold trip chunkProg rowProg stOut
  simp only [bind_assoc, pure_bind]
  rfl

/-- The rows of the padded neighbour lists that the task works on. -/
abbrev listsM (i : grid0.Coords) : Memref sig .scVector .hbm S80x128 .i32 :=
  iV.slice (Rect.unit (s := S2560x128) (k0_off1 i) S80x128.size (k0_off1_inb i)) (fun _ => rfl)
/-- Start the copy of those rows into the tile's own buffer; wait for it. -/
def getLists (i : grid0.Coords) : PR (F := F) i PUnit :=
  Prog.lift (.enqueueDma (listsM i) (.here sV) (.dma cc0_scoped0.sem) (View.wordExact_bits rfl) (Memref.isWhole_whole _).wordExact ⟨Or.inl rfl, trivial⟩)
def waitLists (i : grid0.Coords) : PR (F := F) i PUnit :=
  Prog.lift (.waitDma2 cc0_scoped0.sem (listsM i) sV (View.wordExact_bits rfl) (Memref.isWhole_whole _).wordExact)

/-- The task: the lists fetched, the first gather started, the forty pairs of chunks, the last two copies out waited for. -/
def task (i : grid0.Coords) : PR (F := F) i PUnit := do
  getLists i
  waitLists i
  gather i 0 ![0, 0] inb_S80x128_S1x128_0_0 cc0_scratch3
  Scf.Loop.for k0_t1_loop k0_t1_ok ⟨⟩ fun t _ => trip i t
  waitOut i 0 cc0_scratch5
  waitOut i 1 cc0_scratch6
  pure ⟨⟩

theorem body_eq (i : grid0.Coords) (v2 : BitVec 32) :
    k0_t1_body (F := F) i xV (Memref.isWhole_whole _) iV (Memref.isWhole_whole _) oV (Memref.isWhole_whole _) sV (Memref.isWhole_whole _)
      rV (Memref.isWhole_whole _) uV (Memref.isWhole_whole _) cc0_scratch3 cc0_scratch4 cc0_scratch5 cc0_scratch6 cc0_scoped0 v2
      = fun t _ => trip i t :=
  funext fun t => funext fun _ => trip_eq i t v2

/-- The printed task is `task`. -/
theorem task_eq (i : grid0.Coords) :
    cc0__maxpool_sc (F := F) i xV (Memref.isWhole_whole _) iV (Memref.isWhole_whole _) oV (Memref.isWhole_whole _) sV (Memref.isWhole_whole _)
      rV (Memref.isWhole_whole _) uV (Memref.isWhole_whole _) cc0_scratch3 cc0_scratch4 cc0_scratch5 cc0_scratch6 cc0_scoped0 = task i := by
  rw [cc0__maxpool_sc_eq_skeleton]; unfold cc0__maxpool_sc_skel
  rw [k0_part28_eq_skeleton]; unfold k0_part28_skel
  simp only [body_eq, bind_assoc, pure_bind]
  unfold task
  rfl

end Cert.Proof
-- ==== Proof.Setup.lean ====
/-
  The names every later module uses: the program as the launch theorem sees it, the resource algebra, the thread that runs
  a tile's task, and the contents of the arrays written as functions of their coordinates.
-/
module

public import proofs.«01_k».proof.Proof.Program

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
/-- Resources. -/
abbrev MR (F : FTy → Type) : Type := MT nD τ sig (HIx 1) (Elt F) ℕ UU ℕ
abbrev EH : Emb UH (MR F) := embL

/-- The SparseCore and the vector subcore at coordinates `i`, and its thread on device `d`. -/
abbrev cV (i : grid0.Coords) : Fin τ.nSC := (i 0).castLE hcore0
abbrev jV (i : grid0.Coords) : Fin τ.nSub := (i 1).castLE hsub0
abbrev tV (d : Dev nD) (i : grid0.Coords) : Thread nD τ := V d (cV i) (jV i)

/-- What a program of the tile at `i` is proved against. -/
abbrev wpT [FloatOps F] (d : Dev nD) (i : grid0.Coords) {α : Type} (p : PR (F := F) i α) (Q : α → sProp (MR F)) : sProp (MR F) :=
  wp frame (wpE (defs₀ (F := F)) 𝒱₀ (tV d i) none) Set.univ p Q

end Cert.Proof
-- ==== Proof.RowMax.lean ====
/-
  One row of a chunk. A slot of gathered rows holds 128 rows, 32 for each of four results; `rowProg` stores, at row `r` of
  the results' slot, the maximum over the 32 rows of result `r` (`maxN`), lane by lane, in the order the loop takes them.
-/
module

public import proofs.«01_k».proof.Proof.Setup
public import Idealize.ShloMosaic.Lib.ValueIdxCore
public import Idealize.ShloMosaic.Lib.Pipeline.Value
public import Idealize.ShloMosaic.Lib.Writes
public import Idealize.ShloMosaic.Lib.Scf

@[expose] public section

noncomputable section

namespace Cert.Proof

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The maximum of entries `32 r` to `32 r + n` of a list of 128, taken from the first on. -/
def maxSeq (e : Fin 128 → F .f32) (r : Fin 4) : ℕ → F .f32
  | 0 => e (Fin.ofNat 128 (32 * r.val))
  | n + 1 => FloatOps.maximumf (maxSeq e r n) (e (Fin.ofNat 128 (32 * r.val + 1 + n)))

/-- The maximum, at lane `l`, of rows `32 r` to `32 r + n` of slot `b`. -/
def maxN (f : S2x128x128.Idx → F .f32) (b : Fin 2) (r : Fin 4) (l : Fin 128) (n : ℕ) : F .f32 := maxSeq (fun k => f (ix3 b k l)) r n

/-- Lane `x` of group `q`. -/
def lane (q : Fin 8) (x : S16.Idx) : Fin 128 := ⟨16 * q.val + (x 0).val, by have : (x 0).val < 16 := (x 0).isLt; omega⟩

/-- Group `q` of those maxima, and the eight groups. -/
def grp (f : S2x128x128.Idx → F .f32) (b : Fin 2) (r : Fin 4) (n : ℕ) (q : Fin 8) : FVec F S16 .f32 := fun x => maxN f b r (lane q x) n
def grps (f : S2x128x128.Idx → F .f32) (b : Fin 2) (r : Fin 4) (n : ℕ) : A8 (F := F) :=
  (grp f b r n 0, grp f b r n 1, grp f b r n 2, grp f b r n 3, grp f b r n 4, grp f b r n 5, grp f b r n 6, grp f b r n 7)

/-- Group `q` of row `r` of slot `b` replaced; the whole row replaced. -/
def setGrp (g : S2x4x128.Idx → F .f32) (b : Fin 2) (r : Fin 4) (w : Fin 128 → F .f32) (q : Fin 8) : S2x4x128.Idx → F .f32 :=
  fun y => if ((y 0).val = b.val ∧ (y 1).val = r.val) ∧ (y 2).val / 16 = q.val then w (y 2) else g y
def setRow (g : S2x4x128.Idx → F .f32) (b : Fin 2) (r : Fin 4) (w : Fin 128 → F .f32) : S2x4x128.Idx → F .f32 :=
  fun y => if (y 0).val = b.val ∧ (y 1).val = r.val then w (y 2) else g y

omit [FloatOps F] in
theorem setGrp_all (g : S2x4x128.Idx → F .f32) (b : Fin 2) (r : Fin 4) (w : Fin 128 → F .f32) :
    setGrp (setGrp (setGrp (setGrp (setGrp (setGrp (setGrp (setGrp g b r w 0) b r w 1) b r w 2) b r w 3) b r w 4) b r w 5) b r w 6) b r w 7
      = setRow g b r w := by
  funext y
  have h2 : (y 2).val < 128 := (y 2).isLt
  by_cases h : (y 0).val = b.val ∧ (y 1).val = r.val
  · simp only [setGrp, setRow, h, and_self, _root_.true_and, if_true]
    have : (y 2).val / 16 < 8 := by omega
    generalize (y 2).val / 16 = k at this
    interval_cases k <;> simp
  · simp only [setGrp, setRow, h, _root_.false_and, if_false]

omit [FloatOps F] in
/-- An access's coordinates: the offset added to the coordinate inside the access. -/
theorem emb_unit {s : Shape} (o size : Fin s.rank → ℕ) (h : ∀ a, o a + size a ≤ s.size a) (x : (Rect.unit o size h).shape.Idx) (a : Fin s.rank) :
    ((Rect.unit o size h).emb x a).val = o a + (x a).val := by
  exact (Rect.emb_apply _ _ _).trans (congrArg (o a + ·) (one_mul _))

/-- Sixteen lanes of a slot, loaded and cast to a vector. -/
theorem ld_eq (f : S2x128x128.Idx → F .f32) (b : Fin 2) (k : Fin 128) (q : Fin 8) (h : ∀ a, (![b.val, k.val, 16 * q.val] : Fin 3 → ℕ) a + S1x1x16.size a ≤ S2x128x128.size a) :
    shapeCast S16 (((rV).access (Rect.unit (s := S2x128x128) ![b.val, k.val, 16 * q.val] S1x1x16.size h)).read (Elt F) f : Vec F S1x1x16 .f32) shapeCasts_S1x1x16_S16
      = (fun x => f (ix3 b k (lane q x)) : FVec F S16 .f32) := by
  funext x
  have hx : (x 0).val < 16 := (x 0).isLt
  refine (shapeCast_apply (s := S1x1x16) _ _ x (ix3 0 0 (x 0)) ?_).trans ?_
  · show ((⟨3, ![1, 1, 16]⟩ : Shape).rowMajor _).val = ((⟨1, ![16]⟩ : Shape).rowMajor _).val
    rw [Shape.rowMajor_val_three, Shape.rowMajor_val_one]; simp
  · show f _ = f _
    congr 1
    funext a
    refine Fin.ext ((emb_unit (s := S2x128x128) _ _ h _ a).trans ?_)
    fin_cases a <;> simp [lane]

/-- Sixteen lanes of a slot, stored. -/
theorem st_eq (g : S2x4x128.Idx → F .f32) (b : Fin 2) (r : Fin 4) (q : Fin 8) (w : Fin 128 → F .f32)
    (h : ∀ a, (![b.val, r.val, 16 * q.val] : Fin 3 → ℕ) a + S1x1x16.size a ≤ S2x4x128.size a) :
    ((uV).access (Rect.unit (s := S2x4x128) ![b.val, r.val, 16 * q.val] S1x1x16.size h)).write (Elt F) g (k0_pay59 (fun x => w (lane q x))) Finset.univ
      = setGrp g b r w q := by
  funext y
  by_cases hy : ((y 0).val = b.val ∧ (y 1).val = r.val) ∧ (y 2).val / 16 = q.val
  · obtain ⟨⟨h0, h1⟩, h2⟩ := hy
    have hl : (y 2).val - 16 * q.val < 16 := by omega
    let x : S1x1x16.Idx := ix3 0 0 ⟨(y 2).val - 16 * q.val, hl⟩
    have hx : y = ((uV).access (Rect.unit (s := S2x4x128) ![b.val, r.val, 16 * q.val] S1x1x16.size h)).emb x := by
      funext a
      refine Fin.ext (Eq.trans ?_ (emb_unit (s := S2x4x128) _ _ h x a).symm)
      match a with
      | 0 => exact h0.trans (by simp [x]; rfl)
      | 1 => exact h1.trans (by simp [x]; rfl)
      | 2 => show (y 2).val = 16 * q.val + ((y 2).val - 16 * q.val); omega
    have e := View.write_emb_of_mem (Val := Elt F) (v := (uV).access (Rect.unit (s := S2x4x128) ![b.val, r.val, 16 * q.val] S1x1x16.size h)) g
      (k0_pay59 (fun x => w (lane q x))) (x := x) (Finset.mem_univ _)
    rw [← hx] at e
    rw [e, setGrp, if_pos ⟨⟨h0, h1⟩, h2⟩]
    show shapeCast S1x1x16 (fun x => w (lane q x)) shapeCasts_S16_S1x1x16 x = _
    refine (shapeCast_apply (s := S16) (t := S1x1x16) _ _ x (ix1 ⟨(y 2).val - 16 * q.val, hl⟩) ?_).trans ?_
    · show ((⟨1, ![16]⟩ : Shape).rowMajor _).val = ((⟨3, ![1, 1, 16]⟩ : Shape).rowMajor _).val
      rw [Shape.rowMajor_val_three, Shape.rowMajor_val_one]; simp [x]
    · exact congrArg w (Fin.ext (by simp [lane]; omega))
  · rw [setGrp, if_neg hy]
    refine View.write_of_not_mem _ _ _ ?_
    rw [View.setOn_univ]
    intro hm
    obtain ⟨x, -, hx⟩ := Finset.mem_map.mp hm
    apply hy
    have e0 := emb_unit (s := S2x4x128) _ _ h x 0
    have e1 := emb_unit (s := S2x4x128) _ _ h x 1
    have e2 := emb_unit (s := S2x4x128) _ _ h x 2
    have hx2 : (x 2).val < 16 := (x 2).isLt
    have hx0 : (x 0).val < 1 := (x 0).isLt
    have hx1 : (x 1).val < 1 := (x 1).isLt
    subst hx
    change (((Rect.unit (s := S2x4x128) _ _ h).emb x 0).val = _ ∧ ((Rect.unit (s := S2x4x128) _ _ h).emb x 1).val = _)
      ∧ ((Rect.unit (s := S2x4x128) _ _ h).emb x 2).val / 16 = _
    rw [e0, e1, e2]
    simp
    omega

/-- What a load of sixteen lanes of a slot returns. -/
abbrev ldVal (f : S2x128x128.Idx → F .f32) (o : Fin 3 → ℕ) (h : ∀ a, o a + S1x1x16.size a ≤ S2x128x128.size a) : Vec F S1x1x16 .f32 :=
  ((rV).access (Rect.unit (s := S2x128x128) o S1x1x16.size h)).read (Elt F) f

variable (d : Dev nD) (i : grid0.Coords)

/-- A load of sixteen lanes of a slot, the slot held by a set of elements that holds all of slot `b`. -/
theorem wp_ldRow {α : Type} {b : Fin 2} {k : Fin 128} {q : Fin 8} {o : Fin 3 → ℕ} (ho : o = ![b.val, k.val, 16 * q.val])
    (h : ∀ a, o a + S1x1x16.size a ≤ S2x128x128.size a) {SR : Finset S2x128x128.Idx} (hR : ∀ y : S2x128x128.Idx, (y 0).val = b.val → y ∈ SR)
    {sh : PosShare TreeShare} {f : S2x128x128.Idx → F .f32} {kk : Vec F S1x1x16 .f32 → PR (F := F) i α} {Q : α → sProp (MR F)} :
    ((rV).view.loc (tV d i) ↦[SR]{sh} f : sProp (MR F))
      ⊢ iprop((((rV).view.loc (tV d i) ↦[SR]{sh} f) -∗ wpT d i (kk (ldVal f o h)) Q) -∗ wpT d i (ldRow i o h >>= kk) Q) := by
  refine wp_load_rect (defs := defs₀ (F := F)) 𝒱₀ (tV d i) none Set.univ (m := rV) (r := Rect.unit (s := S2x128x128) o S1x1x16.size h)
    (hl := View.loadsAt_vmem h_S1x1x16) (k := kk) ?_
  intro y hy
  obtain ⟨x, -, rfl⟩ := Finset.mem_map.mp hy
  refine hR _ ?_
  have e := emb_unit (s := S2x128x128) _ _ h x 0
  have hx : (x 0).val < 1 := (x 0).isLt
  refine e.trans ?_
  subst ho
  show b.val + (x 0).val = b.val
  omega

/-- A store of sixteen lanes of a result. -/
theorem wp_stOut {α : Type} {b : Fin 2} {r : Fin 4} {q : Fin 8} (h : ∀ a, (![b.val, r.val, 16 * q.val] : Fin 3 → ℕ) a + S1x1x16.size a ≤ S2x4x128.size a)
    {SU : Finset S2x4x128.Idx} (hU : ∀ y : S2x4x128.Idx, (y 0).val = b.val → y ∈ SU)
    {g : S2x4x128.Idx → F .f32} {w : Fin 128 → F .f32} {kk : PUnit → PR (F := F) i α} {Q : α → sProp (MR F)} :
    ((uV).view.loc (tV d i) ↦[SU]{fullShare} g : sProp (MR F))
      ⊢ iprop((((uV).view.loc (tV d i) ↦[SU]{fullShare} setGrp g b r w q) -∗ wpT d i (kk ⟨⟩) Q)
        -∗ wpT d i (stOut i ![b.val, r.val, 16 * q.val] h (fun x => w (lane q x)) >>= kk) Q) := by
  have hsub : ((uV).access (Rect.unit (s := S2x4x128) ![b.val, r.val, 16 * q.val] S1x1x16.size h)).set ⊆ SU := by
    intro y hy
    obtain ⟨x, -, rfl⟩ := Finset.mem_map.mp hy
    refine hU _ ?_
    have e := emb_unit (s := S2x4x128) _ _ h x 0
    have hx : (x 0).val < 1 := (x 0).isLt
    refine e.trans ?_
    show b.val + (x 0).val = b.val
    omega
  unfold stOut
  rw [bind_assoc]
  iintro Hu Hk
  iapply (wp_load_rect (defs := defs₀ (F := F)) 𝒱₀ (tV d i) none Set.univ (m := uV) (r := Rect.unit (s := S2x4x128) _ S1x1x16.size h)
    (hl := View.loadsAt_vmem h_S1x1x16) (k := fun _ => stOnly i _ h (fun x => w (lane q x)) >>= kk) hsub) $$ Hu
  iintro Hu
  iapply (wp_store (defs := defs₀ (F := F)) 𝒱₀ (tV d i) none Set.univ (m := uV) (r := Rect.unit (s := S2x4x128) _ S1x1x16.size h)
    (w := k0_pay59 (fun x => w (lane q x))) (Mk := Finset.univ) (k := kk) (f := g) hsub) $$ Hu
  rw [st_eq]
  iexact Hk

theorem trips_row : k0_t2_loop.trips = 31 := by decide

/-- The first entry's lanes, and one more entry's, in terms of the maxima. -/
theorem init_eq (f : S2x128x128.Idx → F .f32) (b : Fin 2) (r : Fin 4) (q : Fin 8)
    (h : ∀ a, (![b.val, 32 * r.val, 16 * q.val] : Fin 3 → ℕ) a + S1x1x16.size a ≤ S2x128x128.size a) :
    k0_pay52 (ldVal f ![b.val, 32 * r.val, 16 * q.val] h) = grp f b r 0 q :=
  (ld_eq f b ⟨32 * r.val, by omega⟩ q h).trans (funext fun x => congrArg (fun k => f (ix3 b k (lane q x))) (Fin.ext (by simp [Fin.ofNat]; omega)))
theorem step_eq (f : S2x128x128.Idx → F .f32) (b : Fin 2) (r : Fin 4) (q : Fin 8) (t : ℕ) (ht : t < 31) (o : Fin 3 → ℕ) (ho : o = ![b.val, 32 * r.val + 1 + t, 16 * q.val])
    (h : ∀ a, o a + S1x1x16.size a ≤ S2x128x128.size a) :
    k0_pay57 (grp f b r t q) (ldVal f o h) = grp f b r (t + 1) q := by
  subst ho
  funext x
  refine congrArg (FloatOps.maximumf (grp f b r t q x)) ((congrFun (ld_eq f b ⟨32 * r.val + 1 + t, by omega⟩ q h) x).trans ?_)
  exact congrArg (fun k => f (ix3 b k (lane q x))) (Fin.ext (by simp [Fin.ofNat]; omega))

/-- One row: the slot of gathered rows is left as it was, and row `r` of the results' slot holds the maxima. -/
theorem wp_row {α : Type} {b : Fin 2} {r : Fin 4} {o : Fin k0_t2_loop.trips → Fin 8 → Fin 3 → ℕ}
    (ho : ∀ t q, o t q = ![b.val, 32 * r.val + 1 + t.val, 16 * q.val]) (h : ∀ t q a, o t q a + S1x1x16.size a ≤ S2x128x128.size a)
    {SR : Finset S2x128x128.Idx} (hR : ∀ y : S2x128x128.Idx, (y 0).val = b.val → y ∈ SR)
    {SU : Finset S2x4x128.Idx} (hU : ∀ y : S2x4x128.Idx, (y 0).val = b.val → y ∈ SU) {sh : PosShare TreeShare}
    {f : S2x128x128.Idx → F .f32} {g : S2x4x128.Idx → F .f32} {kk : PUnit → PR (F := F) i α} {Q : α → sProp (MR F)} :
    iprop(((rV).view.loc (tV d i) ↦[SR]{sh} f) ∗ ((uV).view.loc (tV d i) ↦[SU]{fullShare} g) : sProp (MR F))
      ⊢ iprop((((rV).view.loc (tV d i) ↦[SR]{sh} f) ∗ ((uV).view.loc (tV d i) ↦[SU]{fullShare} setRow g b r fun l => maxN f b r l 31) -∗ wpT d i (kk ⟨⟩) Q)
        -∗ wpT d i (rowProg i b r o h >>= kk) Q) := by
  unfold rowProg
  simp only [bind_assoc]
  have hk : 32 * r.val < 128 := by omega
  iintro ⟨Hr, Hu⟩ Hk
  iapply (wp_ldRow d i (b := b) (k := ⟨32 * r.val, hk⟩) (q := 0) rfl _ hR) $$ Hr; iintro Hr
  iapply (wp_ldRow d i (b := b) (k := ⟨32 * r.val, hk⟩) (q := 1) rfl _ hR) $$ Hr; iintro Hr
  iapply (wp_ldRow d i (b := b) (k := ⟨32 * r.val, hk⟩) (q := 2) rfl _ hR) $$ Hr; iintro Hr
  iapply (wp_ldRow d i (b := b) (k := ⟨32 * r.val, hk⟩) (q := 3) rfl _ hR) $$ Hr; iintro Hr
  iapply (wp_ldRow d i (b := b) (k := ⟨32 * r.val, hk⟩) (q := 4) rfl _ hR) $$ Hr; iintro Hr
  iapply (wp_ldRow d i (b := b) (k := ⟨32 * r.val, hk⟩) (q := 5) rfl _ hR) $$ Hr; iintro Hr
  iapply (wp_ldRow d i (b := b) (k := ⟨32 * r.val, hk⟩) (q := 6) rfl _ hR) $$ Hr; iintro Hr
  iapply (wp_ldRow d i (b := b) (k := ⟨32 * r.val, hk⟩) (q := 7) rfl _ hR) $$ Hr; iintro Hr
  iapply (Scf.wp_for_bind frame (wpE (defs₀ (F := F)) 𝒱₀ (tV d i) none) Set.univ _ _ _ k0_t2_ok _ (fun t => rowBody i (o t) (h t))
    (fun n acc => iprop(⌜acc = grps f b r n⌝ ∗ ((rV).view.loc (tV d i) ↦[SR]{sh} f))) ?_) $$ [Hr]
  · intro t acc
    have ht : t.val < 31 := lt_of_lt_of_le t.isLt k0_t2_abs.2.1
    iintro ⟨%hacc, Hr⟩
    subst hacc
    unfold rowBody grps
    iapply (wp_ldRow d i (b := b) (k := ⟨32 * r.val + 1 + t.val, by omega⟩) (q := 0) (ho t 0) _ hR) $$ Hr; iintro Hr
    iapply (wp_ldRow d i (b := b) (k := ⟨32 * r.val + 1 + t.val, by omega⟩) (q := 1) (ho t 1) _ hR) $$ Hr; iintro Hr
    iapply (wp_ldRow d i (b := b) (k := ⟨32 * r.val + 1 + t.val, by omega⟩) (q := 2) (ho t 2) _ hR) $$ Hr; iintro Hr
    iapply (wp_ldRow d i (b := b) (k := ⟨32 * r.val + 1 + t.val, by omega⟩) (q := 3) (ho t 3) _ hR) $$ Hr; iintro Hr
    iapply (wp_ldRow d i (b := b) (k := ⟨32 * r.val + 1 + t.val, by omega⟩) (q := 4) (ho t 4) _ hR) $$ Hr; iintro Hr
    iapply (wp_ldRow d i (b := b) (k := ⟨32 * r.val + 1 + t.val, by omega⟩) (q := 5) (ho t 5) _ hR) $$ Hr; iintro Hr
    iapply (wp_ldRow d i (b := b) (k := ⟨32 * r.val + 1 + t.val, by omega⟩) (q := 6) (ho t 6) _ hR) $$ Hr; iintro Hr
    iapply (wp_ldRow d i (b := b) (k := ⟨32 * r.val + 1 + t.val, by omega⟩) (q := 7) (ho t 7) _ hR) $$ Hr; iintro Hr
    unfold wpT
    rw [Prog.pure_eq_ret, wp_ret]
    imodintro
    isplitr
    · ipureintro
      simp only [step_eq f b r _ t.val ht _ (ho t _)]
    · iexact Hr
  · isplitr
    · ipureintro
      simp only [init_eq]; rfl
    · iexact Hr
  iintro %acc ⟨%hacc, Hr⟩
  subst hacc
  rw [show Scf.trips _ _ _ = 31 from trips_row]
  unfold grps grp
  iapply (wp_stOut d i (w := fun l => maxN f b r l 31) _ hU) $$ Hu; iintro Hu
  iapply (wp_stOut d i (w := fun l => maxN f b r l 31) _ hU) $$ Hu; iintro Hu
  iapply (wp_stOut d i (w := fun l => maxN f b r l 31) _ hU) $$ Hu; iintro Hu
  iapply (wp_stOut d i (w := fun l => maxN f b r l 31) _ hU) $$ Hu; iintro Hu
  iapply (wp_stOut d i (w := fun l => maxN f b r l 31) _ hU) $$ Hu; iintro Hu
  iapply (wp_stOut d i (w := fun l => maxN f b r l 31) _ hU) $$ Hu; iintro Hu
  iapply (wp_stOut d i (w := fun l => maxN f b r l 31) _ hU) $$ Hu; iintro Hu
  iapply (wp_stOut d i (w := fun l => maxN f b r l 31) _ hU) $$ Hu; iintro Hu
  rw [setGrp_all]
  iapply Hk
  isplitl [Hr] <;> iassumption

/-- What the slot of results holds after a chunk: at row `r`, lane `l`, the maximum over result `r`'s thirty-two entries. -/
def chunkVal (f : S2x128x128.Idx → F .f32) (b : Fin 2) : S2x4x128.Idx → F .f32 := fun y => maxN f b (y 1) (y 2) 31

theorem chunk_rows (f : S2x128x128.Idx → F .f32) (b : Fin 2) (g : S2x4x128.Idx → F .f32) (y : S2x4x128.Idx) (hy : (y 0).val = b.val) :
    setRow (setRow (setRow (setRow g b 0 fun l => maxN f b 0 l 31) b 1 fun l => maxN f b 1 l 31) b 2 fun l => maxN f b 2 l 31) b 3 (fun l => maxN f b 3 l 31) y
      = chunkVal f b y := by
  unfold setRow chunkVal
  obtain ⟨r, hr⟩ : ∃ r : Fin 4, r = y 1 := ⟨_, rfl⟩
  rw [← hr]
  match r with
  | 0 => simp [hy]
  | 1 => simp [hy]
  | 2 => simp [hy]
  | 3 => simp [hy]

/-- The four rows of a chunk. -/
theorem wp_chunk {α : Type} {b : Fin 2}
    {SR : Finset S2x128x128.Idx} (hR : ∀ y : S2x128x128.Idx, (y 0).val = b.val → y ∈ SR)
    {SU : Finset S2x4x128.Idx} (hU : ∀ y : S2x4x128.Idx, (y 0).val = b.val ↔ y ∈ SU) {sh : PosShare TreeShare}
    {f : S2x128x128.Idx → F .f32} {g : S2x4x128.Idx → F .f32} {kk : PUnit → PR (F := F) i α} {Q : α → sProp (MR F)} :
    iprop(((rV).view.loc (tV d i) ↦[SR]{sh} f) ∗ ((uV).view.loc (tV d i) ↦[SU]{fullShare} g) : sProp (MR F))
      ⊢ iprop((((rV).view.loc (tV d i) ↦[SR]{sh} f) ∗ ((uV).view.loc (tV d i) ↦[SU]{fullShare} chunkVal f b) -∗ wpT d i (kk ⟨⟩) Q)
        -∗ wpT d i (chunkProg i b >>= kk) Q) := by
  unfold chunkProg
  simp only [bind_assoc]
  iintro H Hk
  iapply (wp_row d i (b := b) (r := 0) (fun t q => rawOff_eq b 0 t q) _ hR fun y => (hU y).1) $$ H; iintro H
  iapply (wp_row d i (b := b) (r := 1) (fun t q => rawOff_eq b 1 t q) _ hR fun y => (hU y).1) $$ H; iintro H
  iapply (wp_row d i (b := b) (r := 2) (fun t q => rawOff_eq b 2 t q) _ hR fun y => (hU y).1) $$ H; iintro H
  iapply (wp_row d i (b := b) (r := 3) (fun t q => rawOff_eq b 3 t q) _ hR fun y => (hU y).1) $$ H; iintro ⟨Hr, Hu⟩
  iapply Hk
  isplitl [Hr]; · iexact Hr
  iapply (Entails.of_eq (pointsTo_congr (ℓ := (uV).view.loc (tV d i)) fun y hy => chunk_rows f b g y ((hU y).2 hy))); iexact Hu

end Cert.Proof
-- ==== Proof.Values.lean ====
/-
  What the arrays hold, as functions of coordinates, and which elements each piece of an array has. The task at
  `i` is the `wid i`-th of 32 and takes chunks `base i` to `base i + 79`; chunk `j` is rows `4 j` to `4 j + 3` of the
  padded result, from row `j` of the padded neighbour lists.
-/
module

public import proofs.«01_k».proof.Proof.RowMax
public import Idealize.ShloMosaic.Lib.ValueLayout

@[expose] public section

noncomputable section

namespace Cert.Proof

open Cert.KernelIdeal Cert.KernelIdeal.Gen

open Idealize.ShloMosaic Idealize.ShloMosaic.ValueIdx

variable {F : FTy → Type} [FloatOps F]

/-- The number of the task at `i`, and its first chunk. -/
def wid (i : grid0.Coords) : ℕ := 2 * (i 1).val + (i 0).val
def base (i : grid0.Coords) : ℕ := 80 * wid i

theorem wid_lt (i : grid0.Coords) : wid i < 32 := by
  have h0 : (i 0).val < 2 := (i 0).isLt
  have h1 : (i 1).val < 16 := (i 1).isLt
  unfold wid; omega

/-- The table's row that entry `k` of list `j` names. -/
def rowOf (ix : S2560x128.Idx → BitVec 32) (j : ℕ) (k : Fin 128) : Fin 10000 := Fin.ofNat 10000 (ix (ix2 (Fin.ofNat 2560 j) k)).toNat

/-- The table's rows that list `j` names, one after another. -/
def slotVal (x : S10000x128.Idx → F .f32) (ix : S2560x128.Idx → BitVec 32) (j : ℕ) : S2x128x128.Idx → F .f32 :=
  fun y => x (ix2 (rowOf ix j (y 1)) (y 2))

/-- The padded result: row `4 j + r` is the maximum over entries `32 r` to `32 r + 31` of list `j`. -/
def outVal (x : S10000x128.Idx → F .f32) (ix : S2560x128.Idx → BitVec 32) : S10240x128.Idx → F .f32 :=
  fun y => maxSeq (fun k => x (ix2 (rowOf ix ((y 0).val / 4) k) (y 1))) (Fin.ofNat 4 (y 0).val) 31

/-- The task's lists, in its own buffer. -/
def lstVal (ix : S2560x128.Idx → BitVec 32) (i : grid0.Coords) : S80x128.Idx → BitVec 32 :=
  fun z => ix (ix2 (Fin.ofNat 2560 (base i + (z 0).val)) (z 1))

/-- Slot `b` of the gathered rows and of the results; chunks `a` to `b - 1` of the padded result; the lists of task `w`. -/
def slotSet (b : Fin 2) : Finset S2x128x128.Idx := Finset.univ.filter fun y => (y 0).val = b.val
def resSet (b : Fin 2) : Finset S2x4x128.Idx := Finset.univ.filter fun y => (y 0).val = b.val
def outSet (a b : ℕ) : Finset S10240x128.Idx := Finset.univ.filter fun y => a ≤ (y 0).val / 4 ∧ (y 0).val / 4 < b
def idxSet (w : ℕ) : Finset S2560x128.Idx := Finset.univ.filter fun y => (y 0).val / 80 = w

theorem mem_slotSet {b : Fin 2} {y : S2x128x128.Idx} : y ∈ slotSet b ↔ (y 0).val = b.val := by simp [slotSet]
theorem mem_resSet {b : Fin 2} {y : S2x4x128.Idx} : y ∈ resSet b ↔ (y 0).val = b.val := by simp [resSet]
theorem mem_outSet {a b : ℕ} {y : S10240x128.Idx} : y ∈ outSet a b ↔ a ≤ (y 0).val / 4 ∧ (y 0).val / 4 < b := by simp [outSet]
theorem mem_idxSet {w : ℕ} {y : S2560x128.Idx} : y ∈ idxSet w ↔ (y 0).val / 80 = w := by simp [idxSet]

/-! ## Coordinates under the memory references -/

theorem emb_tabM (z : S10000x128.Idx) : tabM.view.emb z = z := by
  funext a
  refine Fin.ext ((emb_unit (s := S10000x128) _ _ inb_S10000x128_S10000x128_0_0 z a).trans ?_)
  fin_cases a <;> simp

theorem emb_slotM (b : Fin 2) (z : S128x128.Idx) : (slotM b).view.emb z = (ix3 b (z 0) (z 1) : S2x128x128.Idx) := by
  have e : Shape.reshapeEquiv squeezes_S1x128x128_S128x128.numel_eq z = (ix3 (0 : Fin 1) (z 0) (z 1) : S1x128x128.Idx) := by
    refine Shape.reshapeEquiv_eq_of_rowMajor _ ?_
    show ((⟨3, ![1, 128, 128]⟩ : Shape).rowMajor _).val = ((⟨2, ![128, 128]⟩ : Shape).rowMajor _).val
    rw [Shape.rowMajor_val_three, Shape.rowMajor_val_two]; simp
  show (Rect.unit (s := S2x128x128) ![b.val, 0, 0] S1x128x128.size (inbSlot b)).emb (Shape.reshapeEquiv squeezes_S1x128x128_S128x128.numel_eq z) = _
  rw [e]
  funext a
  refine Fin.ext ((emb_unit (s := S2x128x128) _ _ (inbSlot b) _ a).trans ?_)
  fin_cases a <;> simp

theorem emb_resM (b : Fin 2) (z : S4x128.Idx) : (resM b).view.emb z = (ix3 b (z 0) (z 1) : S2x4x128.Idx) := by
  have e : Shape.reshapeEquiv squeezes_S1x4x128_S4x128.numel_eq z = (ix3 (0 : Fin 1) (z 0) (z 1) : S1x4x128.Idx) := by
    refine Shape.reshapeEquiv_eq_of_rowMajor _ ?_
    show ((⟨3, ![1, 4, 128]⟩ : Shape).rowMajor _).val = ((⟨2, ![4, 128]⟩ : Shape).rowMajor _).val
    rw [Shape.rowMajor_val_three, Shape.rowMajor_val_two]; simp
  show (Rect.unit (s := S2x4x128) ![b.val, 0, 0] S1x4x128.size (inbRes b)).emb (Shape.reshapeEquiv squeezes_S1x4x128_S4x128.numel_eq z) = _
  rw [e]
  funext a
  refine Fin.ext ((emb_unit (s := S2x4x128) _ _ (inbRes b) _ a).trans ?_)
  fin_cases a <;> simp

theorem emb_listM {n : ℕ} (hn : n < 80) {o : Fin 2 → ℕ} (ho : o = ![n, 0]) (h : ∀ a, o a + S1x128.size a ≤ S80x128.size a) (z : S128.Idx) :
    (listM o h).view.emb z = (ix2 ⟨n, hn⟩ (z 0) : S80x128.Idx) := by
  subst ho
  have e : Shape.reshapeEquiv squeezes_S1x128_S128.numel_eq z = (ix2 (0 : Fin 1) (z 0) : S1x128.Idx) := by
    refine Shape.reshapeEquiv_eq_of_rowMajor _ ?_
    show ((⟨2, ![1, 128]⟩ : Shape).rowMajor _).val = ((⟨1, ![128]⟩ : Shape).rowMajor _).val
    rw [Shape.rowMajor_val_one, Shape.rowMajor_val_two]; simp
  show (Rect.unit (s := S80x128) ![n, 0] S1x128.size h).emb (Shape.reshapeEquiv squeezes_S1x128_S128.numel_eq z) = _
  rw [e]
  funext a
  refine Fin.ext ((emb_unit (s := S80x128) _ _ h _ a).trans ?_)
  fin_cases a <;> simp

theorem emb_outM {j : ℕ} {o : Fin 2 → ℕ} (ho : o = ![4 * j, 0]) (h : ∀ a, o a + S4x128.size a ≤ S10240x128.size a) (z : S4x128.Idx) :
    ((outM o h).view.emb z 0).val = 4 * j + (z 0).val ∧ ((outM o h).view.emb z 1).val = (z 1).val := by
  subst ho
  refine ⟨(emb_unit (s := S10240x128) _ _ h z 0).trans (by simp), (emb_unit (s := S10240x128) _ _ h z 1).trans (by simp)⟩

theorem set_tabM : tabM.view.set = (Finset.univ : Finset S10000x128.Idx) := by
  ext y; exact ⟨fun _ => Finset.mem_univ _, fun _ => Finset.mem_map.mpr ⟨y, Finset.mem_univ _, emb_tabM y⟩⟩

theorem set_slotM (b : Fin 2) : (slotM b).view.set = slotSet b := by
  ext y
  rw [mem_slotSet]
  constructor
  · intro hy
    obtain ⟨z, -, rfl⟩ := Finset.mem_map.mp hy
    rw [emb_slotM]
  · intro hy
    refine Finset.mem_map.mpr ⟨ix2 (y 1) (y 2), Finset.mem_univ _, ?_⟩
    rw [emb_slotM]
    funext a
    match a with
    | 0 => exact Fin.ext hy.symm
    | 1 => rfl
    | 2 => rfl

theorem set_resM (b : Fin 2) : (resM b).view.set = resSet b := by
  ext y
  rw [mem_resSet]
  constructor
  · intro hy
    obtain ⟨z, -, rfl⟩ := Finset.mem_map.mp hy
    rw [emb_resM]
  · intro hy
    refine Finset.mem_map.mpr ⟨ix2 (y 1) (y 2), Finset.mem_univ _, ?_⟩
    rw [emb_resM]
    funext a
    match a with
    | 0 => exact Fin.ext hy.symm
    | 1 => rfl
    | 2 => rfl

theorem set_outM {j : ℕ} {o : Fin 2 → ℕ} (ho : o = ![4 * j, 0]) (h : ∀ a, o a + S4x128.size a ≤ S10240x128.size a) :
    (outM o h).view.set = outSet j (j + 1) := by
  ext y
  rw [mem_outSet]
  constructor
  · intro hy
    obtain ⟨z, -, rfl⟩ := Finset.mem_map.mp hy
    have hz : (z 0).val < 4 := (z 0).isLt
    rw [(emb_outM ho h z).1]
    omega
  · intro hy
    refine Finset.mem_map.mpr ⟨ix2 ⟨(y 0).val - 4 * j, by omega⟩ (y 1), Finset.mem_univ _, ?_⟩
    have e := emb_outM ho h (ix2 ⟨(y 0).val - 4 * j, by omega⟩ (y 1))
    funext a
    match a with
    | 0 => exact Fin.ext (e.1.trans (by show 4 * j + ((y 0).val - 4 * j) = (y 0).val; omega))
    | 1 => exact Fin.ext e.2

/-! ## What the copies deliver -/

/-- A gather's payload: entry `z 0` of the list names the row. -/
theorem payload_eq (x : S10000x128.Idx → F .f32) (idx : S128.Idx → BitVec 32) (h : ∀ z, (idx z).toNat < 10000) (z : S128x128.Idx) :
    SparseCore.gatherPayload (F := F) (e := .f32) gathers_S10000x128_S128x128 x (SparseCore.rows (F := F) (si := S128) idx rfl h) z
      = x (ix2 ⟨(idx (ix1 (z 0))).toNat, h _⟩ (z 1)) := by
  refine congrArg x (funext fun a => ?_)
  match a with
  | 0 =>
    refine (Shape.Gathers.idx_axis gathers_S10000x128_S128x128 _ z).trans (Fin.ext ?_)
    show (idx (S128.rowMajor.symm _)).toNat = (idx (ix1 (z 0))).toNat
    congr 2
    rw [Equiv.symm_apply_eq]
    refine Fin.ext ?_
    show (z 0).val = ((⟨1, ![128]⟩ : Shape).rowMajor _).val
    rw [Shape.rowMajor_val_one]
  | 1 => exact Fin.ext (Shape.Gathers.idx_of_ne gathers_S10000x128_S128x128 _ z 1 (by decide))

theorem list_read {ix : S2560x128.Idx → BitVec 32} (i : grid0.Coords) {n : ℕ} (hn : n < 80) {o : Fin 2 → ℕ} (ho : o = ![n, 0])
    (h : ∀ a, o a + S1x128.size a ≤ S80x128.size a) (z : S128.Idx) :
    (listM o h).view.read (Elt F) (lstVal ix i) z = ix (ix2 (Fin.ofNat 2560 (base i + n)) (z 0)) := by
  show lstVal ix i ((listM o h).view.emb z) = _
  rw [emb_listM hn ho]; rfl

/-- Slot `b` after the gather of list `n` of the task. -/
theorem gather_val (x : S10000x128.Idx → F .f32) {ix : S2560x128.Idx → BitVec 32} (hix : ∀ y, (ix y).toNat < 10000) (i : grid0.Coords) (b : Fin 2)
    {n : ℕ} (hn : n < 80) {o : Fin 2 → ℕ} (ho : o = ![n, 0]) (h : ∀ a, o a + S1x128.size a ≤ S80x128.size a) (f : S2x128x128.Idx → F .f32)
    (hin : ∀ z, ((listM o h).view.read (Elt F) (lstVal ix i) z).toNat < 10000) (y : S2x128x128.Idx) (hy : y ∈ (slotM b).view.set) :
    (slotM b).view.write (Elt F) f (SparseCore.gatherPayload gathers_S10000x128_S128x128 (tabM.view.read (Elt F) x)
      (SparseCore.rows ((listM o h).view.read (Elt F) (lstVal ix i)) rfl hin)) Finset.univ y = slotVal x ix (base i + n) y := by
  obtain ⟨z, -, rfl⟩ := Finset.mem_map.mp hy
  rw [View.write_emb_of_mem _ _ (Finset.mem_univ z)]
  refine (payload_eq (tabM.view.read (Elt F) x) _ hin z).trans ?_
  show x (tabM.view.emb _) = _
  rw [emb_tabM, emb_slotM]
  refine congrArg x (funext fun a => ?_)
  match a with
  | 0 =>
    refine Fin.ext ?_
    show ((listM o h).view.read (Elt F) (lstVal ix i) (ix1 (z 0))).toNat = _
    rw [list_read i hn ho]
    exact (Nat.mod_eq_of_lt (hix _)).symm
  | 1 => rfl

/-- A chunk's four rows after their copy out. -/
theorem out_val (x : S10000x128.Idx → F .f32) (ix : S2560x128.Idx → BitVec 32) (b : Fin 2) {j : ℕ} {o : Fin 2 → ℕ} (ho : o = ![4 * j, 0])
    (h : ∀ a, o a + S4x128.size a ≤ S10240x128.size a) (g : S10240x128.Idx → F .f32) (y : S10240x128.Idx) (hy : y ∈ (outM o h).view.set) :
    (outM o h).view.write (Elt F) g ((ReadAs.same : ReadAs (Elt F) S4x128 .f32 S4x128 .f32).apply ((resM b).view.read (Elt F) (chunkVal (slotVal x ix j) b))) Finset.univ y
      = outVal x ix y := by
  obtain ⟨z, -, rfl⟩ := Finset.mem_map.mp hy
  have hz : (z 0).val < 4 := (z 0).isLt
  obtain ⟨e0, e1⟩ := emb_outM ho h z
  rw [View.write_emb_of_mem _ _ (Finset.mem_univ z)]
  show chunkVal (slotVal x ix j) b ((resM b).view.emb z) = _
  rw [emb_resM]
  show maxSeq (fun k => x (ix2 (rowOf ix j k) (z 1))) (z 0) 31 = maxSeq _ _ 31
  congr 1
  · funext k
    refine congrArg x (funext fun a => ?_)
    match a with
    | 0 => exact congrArg (fun j => rowOf ix j k) (by omega)
    | 1 => exact Fin.ext e1.symm
  · refine Fin.ext ?_
    show (z 0).val = _ % 4
    omega

theorem lists_set (i : grid0.Coords) :
    (iV.slice (Rect.unit (s := S2560x128) (k0_off1 i) S80x128.size (k0_off1_inb i)) (fun _ => rfl)).view.set = idxSet (wid i) := by
  ext y
  show y ∈ ((View.whole (main_v1_scv : Ref sig .scVector)).slice (Rect.unit (s := S2560x128) (k0_off1 i) S80x128.size (k0_off1_inb i))).set ↔ _
  rw [View.set_slice_whole, Rect.mem_set_unit, mem_idxSet, k0_off1_eq]
  have h1 : (y 1).val < 128 := (y 1).isLt
  constructor
  · intro hy
    have h0 := hy 0
    simp at h0
    unfold wid; omega
  · intro hy a
    match a with
    | 0 => unfold wid at hy; simp; omega
    | 1 => simp; exact h1

/-- The task's buffer of lists after its fetch. -/
theorem lists_val (ix : S2560x128.Idx → BitVec 32) (i : grid0.Coords) (f : S80x128.Idx → BitVec 32) :
    (sV).view.write (Elt F) f ((ReadAs.same : ReadAs (Elt F) S80x128 .i32 S80x128 .i32).apply
      ((iV.slice (Rect.unit (s := S2560x128) (k0_off1 i) S80x128.size (k0_off1_inb i)) (fun _ => rfl)).view.read (Elt F) ix)) Finset.univ
      = lstVal ix i := by
  refine (View.write_whole_univ _ _ _).trans (funext fun z => ?_)
  show ix ((Rect.unit (s := S2560x128) (k0_off1 i) S80x128.size (k0_off1_inb i)).emb z) = ix _
  have hz : (z 0).val < 80 := (z 0).isLt
  have hw := wid_lt i
  refine congrArg ix (funext fun a => Fin.ext ((emb_unit (s := S2560x128) _ _ (k0_off1_inb i) z a).trans ?_))
  refine (congrArg (· + (z a).val) (congrFun (k0_off1_eq i) a)).trans ?_
  match a with
  | 0 => show 160 * (i 1).val + 80 * (i 0).val + (z 0).val = (base i + (z 0).val) % 2560; unfold base wid at *; omega
  | 1 => show 0 + (z 1).val = (z 1).val; omega

end Cert.Proof
-- ==== Proof.Moves.lean ====
/-
  The rules for the task's copies: a gather started and waited for, a copy out started and waited for. A copy in flight is
  held as what its wait delivers, written with the values the arrays then hold.
-/
module

public import proofs.«01_k».proof.Proof.Values

@[expose] public section

noncomputable section

namespace Cert.Proof

open Cert.KernelIdeal Cert.KernelIdeal.Gen

open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Something held beside a copy in flight may be handed over with what the copy delivers. -/
theorem flight_beside (c : Thread nD τ) {sm : SemLoc sig} {ι : HIx 1} {N : ℕ} {A B : sProp (MR F)} :
    (Transfers.Flight countersEmb c sm ι N A : sProp (MR F)) ⊢ iprop(B -∗ Transfers.Flight countersEmb c sm ι N iprop(A ∗ B)) := by
  unfold Transfers.Flight
  iintro ⟨⟨%R, HR, %hcap, %hpeek⟩, Hcred⟩ HB
  isplitl [HR HB]
  · iexists iprop(R ∗ B)
    isplitl [HR HB]
    · isplitl [HR] <;> iassumption
    isplit
    · ipureintro
      intro K
      refine BIBase.Entails.trans ?_ (hcap K)
      iintro ⟨⟨HR, HB⟩, HK⟩
      isplitl [HR]; · iexact HR
      iintro ⟨Hv, HA⟩
      iapply HK
      isplitl [Hv]; · iexact Hv
      isplitl [HA] <;> iassumption
    · ipureintro
      intro K
      refine BIBase.Entails.trans ?_ (hpeek K)
      iintro ⟨⟨HR, HB⟩, HK⟩
      isplitl [HR]; · iexact HR
      iintro HR
      iapply HK
      isplitl [HR] <;> iassumption
  · iexact Hcred

variable (d : Dev nD) (i : grid0.Coords)

/-- The table and the padded result, on device `d`; the tile's lists, gathered rows and results. -/
abbrev xLoc : Loc nD τ sig := (xV).view.loc (tV d i)
abbrev oLoc : Loc nD τ sig := (oV).view.loc (tV d i)
abbrev sLoc : Loc nD τ sig := (sV).view.loc (tV d i)
abbrev rLoc : Loc nD τ sig := (rV).view.loc (tV d i)
abbrev uLoc : Loc nD τ sig := (uV).view.loc (tV d i)

/-- The semaphore's cell at the tile, at zero. -/
abbrev sem0 (s : DmaSems sig S_) : sProp (MR F) := semVal (tV d i, SemLoc.dma s.sem) 0
/-- A copy of `N` units in flight on a semaphore of the tile, delivering `A`. -/
abbrev fly (s : DmaSems sig S_) (N : ℕ) (A : sProp (MR F)) : sProp (MR F) :=
  Transfers.Flight countersEmb (tV d i) (.dma s.sem) (default : HIx 1) N A

variable (x : S10000x128.Idx → F .f32) (ix : S2560x128.Idx → BitVec 32)

/-- Slot `b` of the gathered rows at contents `f`, with shares of the table and of the tile's lists. -/
abbrev slotPts (b : Fin 2) (q s : PosShare TreeShare) (f : S2x128x128.Idx → F .f32) : sProp (MR F) :=
  iprop((rLoc d i ↦[slotSet b]{fullShare} f) ∗ (xLoc d i ↦[(Finset.univ : Finset S10000x128.Idx)]{q} x) ∗ (sLoc d i ↦[(Finset.univ : Finset S80x128.Idx)]{s} lstVal ix i))
/-- The gather of list `n` into slot `b`, in flight. -/
abbrev gatherFly (b : Fin 2) (q s : PosShare TreeShare) (sm : DmaSems sig S_) (n : ℕ) : sProp (MR F) :=
  fly d i sm (slotM b).view.dmaCredit (slotPts d i x ix b q s (slotVal x ix (base i + n)))
/-- The copy out of chunk `j` from slot `b` of the results, in flight. -/
abbrev outFly (b : Fin 2) (sm : DmaSems sig S_) (j : ℕ) : sProp (MR F) :=
  fly d i sm (outM ![0, 0] inb_S10240x128_S4x128_0_0).view.dmaCredit
    iprop((oLoc d i ↦[outSet j (j + 1)]{fullShare} outVal x ix) ∗ ∃ u, uLoc d i ↦[resSet b]{fullShare} u)

variable {x ix}

/-- What a tile owes with the waits it has done so far, none of them a wait of the launch. -/
abbrev owing (O : CellTallies nD τ sig (HIx 1)) (W : Waits sig (HIx 1)) : sProp (MR F) :=
  iprop(∃ W', ⌜∀ p ∈ W', p ∈ W ∨ p.2 = none⌝ ∗ owes (tV d i) O W')

theorem wp_gather (hix : ∀ y, (ix y).toNat < 10000) {α : Type} {b : Fin 2} {q s : PosShare TreeShare} {n : ℕ} (hn : n < 80)
    {o : Fin 2 → ℕ} (ho : o = ![n, 0]) (h : ∀ a, o a + S1x128.size a ≤ S80x128.size a) {sm : DmaSems sig S_}
    {f : S2x128x128.Idx → F .f32} {kk : PUnit → PR (F := F) i α} {Q : α → sProp (MR F)} :
    iprop(slotPts d i x ix b q s f ∗ sem0 d i sm)
      ⊢ iprop((gatherFly d i x ix b q s sm n -∗ wpT d i (kk ⟨⟩) Q) -∗ wpT d i (gather i b o h sm >>= kk) Q) := by
  have hin : ∀ z, ((listM o h).view.read (Elt F) (lstVal ix i) z).toNat < S10000x128.size gathers_S10000x128_S128x128.axis := fun z => by
    rw [list_read i hn ho]; exact hix _
  have hN : ∀ b : Fin 2, ∑ j, ((slotM b).slice (S128x128.rowRect gathers_S10000x128_S128x128.axis' j) (S128x128.stride_rowRect _ j)).view.dmaCredit
      = (slotM b).view.dmaCredit := by decide
  iintro ⟨⟨Hr, Hx, Hs⟩, Hv⟩ Hk
  ihave Hs' := (pointsTo_split_subset (ℓ := sLoc d i) (Finset.subset_univ (listM o h).view.set)).1 $$ Hs
  icases Hs' with ⟨Hl, Hrest⟩
  unfold gather
  iapply (SparseCore.wp_indirectGatherLocal countersEmb 𝒱₀ (tV d i) none (hg := gathers_S10000x128_S128x128) (default : HIx 1)
    (slotM b).view.dmaCredit (hN b) (by decide) hin) $$ [Hr Hx Hl Hv]
  · isplitl [Hx]; · rw [set_tabM]; iexact Hx
    isplitl [Hr]; · rw [set_slotM]; iexact Hr
    isplitl [Hl]; · iexact Hl
    iexact Hv
  iintro Hf
  iapply Hk
  ihave Hw := (flight_beside (tV d i) (B := (sLoc d i ↦[Finset.univ \ (listM o h).view.set]{s} lstVal ix i))) $$ Hf
  ihave Hf' := Hw $$ Hrest
  iapply (Transfers.Flight_mono countersEmb (tV d i) ?_) $$ Hf'
  iintro ⟨⟨Hr, Hx, Hl⟩, Hrest⟩
  isplitl [Hr]
  · rw [← set_slotM]
    iapply (Entails.of_eq (pointsTo_congr (ℓ := rLoc d i) fun y hy => gather_val x hix i b hn ho h f hin y hy)); iexact Hr
  isplitl [Hx]; · rw [set_tabM]; iexact Hx
  iapply (pointsTo_split_subset (ℓ := sLoc d i) (Finset.subset_univ (listM o h).view.set)).2
  isplitl [Hl] <;> iassumption

theorem wp_waitDma {α : Type} {sp sp' : Space} {s s' : Shape} {e e' : EltTy} {sm : DmaSems sig S_}
    {src : Memref sig .scVector sp' s' e'} {dst : Memref sig .scVector sp s e} (hs : src.view.WordExact) (hd : dst.view.WordExact)
    {O : CellTallies nD τ sig (HIx 1)} {W : Waits sig (HIx 1)}
    {A : sProp (MR F)} {kk : PUnit → PR (F := F) i α} {Q : α → sProp (MR F)} :
    iprop(fly d i sm dst.view.dmaCredit A ∗ owing d i O W ∗ Transfers.MayWaits (tV d i) (default : HIx 1) O)
      ⊢ iprop((A ∗ sem0 d i sm ∗ owing d i O W -∗ wpT d i (kk ⟨⟩) Q) -∗ wpT d i (.op (.waitDma2 sm.sem src dst hs hd) kk) Q) := by
  iintro ⟨Hf, ⟨%W', %hW', HO⟩, Hmw⟩ Hk
  iapply (Transfers.wp_waitLocalO countersEmb 𝒱₀ (tV d i) none (default : HIx 1) (rfl : dst.view.dmaCredit = _)) $$ [Hf HO Hmw]
  · isplitl [Hf]; · iexact Hf
    isplitl [HO]; · iexact HO
    iapply (Transfers.MayWaits.elim (SemLoc.dma sm.sem)) $$ Hmw
  iintro ⟨HA, Hv, HO⟩
  iapply Hk
  isplitl [HA]; · iexact HA
  isplitl [Hv]; · iexact Hv
  iexists _; isplitr
  swap; · iexact HO
  ipureintro; intro p hp
  rcases Finset.mem_insert.mp hp with hp | hp
  · exact .inr (hp ▸ rfl)
  · exact hW' p hp

theorem wp_putOut {α : Type} {b : Fin 2} {j : ℕ} {o : Fin 2 → ℕ} (ho : o = ![4 * j, 0])
    (h : ∀ a, o a + S4x128.size a ≤ S10240x128.size a) {sm : DmaSems sig S_}
    {g : S10240x128.Idx → F .f32} {kk : PUnit → PR (F := F) i α} {Q : α → sProp (MR F)} :
    iprop((uLoc d i ↦[resSet b]{fullShare} chunkVal (slotVal x ix j) b) ∗ (oLoc d i ↦[outSet j (j + 1)]{fullShare} g) ∗ sem0 d i sm)
      ⊢ iprop((outFly d i x ix b sm j -∗ wpT d i (kk ⟨⟩) Q) -∗ wpT d i (putOut i b o h sm >>= kk) Q) := by
  iintro ⟨Hu, Ho, Hv⟩ Hk
  iapply (Transfers.wp_dmaLocal countersEmb 𝒱₀ (tV d i) none (src := resM b) (via := .same) (dst := outM o h) (sm := .dma sm.sem) (k := kk)
    (default : HIx 1) (outM ![0, 0] inb_S10240x128_S4x128_0_0).view.dmaCredit rfl (by decide) (Finset.Subset.refl _)) $$ [Hu Ho Hv]
  · isplitl [Hu]; · rw [set_resM]; iexact Hu
    isplitl [Ho]; · rw [set_outM ho]; iexact Ho
    iexact Hv
  iintro Hf
  iapply Hk
  iapply (Transfers.Flight_mono countersEmb (tV d i) ?_) $$ Hf
  iintro ⟨Ho, Hu⟩
  isplitl [Ho]
  · rw [← set_outM ho h]
    iapply (Entails.of_eq (pointsTo_congr (ℓ := oLoc d i) fun y hy => out_val x ix b ho h g y hy)); iexact Ho
  · iexists _; rw [← set_resM]; iexact Hu

end Cert.Proof
-- ==== Proof.Tile.lean ====
/-
  The task. Before trip `n` of its loop over pairs of chunks the gather of list `2 n` into slot 0 is in flight, slot 1 is
  free, and the copies out of the pair before are in flight; the chunks before that pair are done, holding the result, and
  the chunks from this pair on are as they were (`Inv`).
-/
module

public import proofs.«01_k».proof.Proof.Moves

@[expose] public section

noncomputable section

namespace Cert.Proof

open Cert.KernelIdeal Cert.KernelIdeal.Gen

open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips_pair : k0_t1_loop.trips = 40 := by decide
theorem cond_odd : ∀ t : Fin k0_t1_loop.trips, k0_cond1 t = 1#1 := by decide +kernel
theorem cond_even : ∀ t : Fin k0_t1_loop.trips, k0_cond3 t = 1#1 ↔ t.val + 1 < 40 := by decide +kernel
theorem cond_out : ∀ (b : Fin 2) (t : Fin k0_t1_loop.trips), condOut b t = 1#1 ↔ 0 < t.val := by decide +kernel

/-- Chunks `a` to `c - 1` are chunks `a` to `b - 1` and chunks `b` to `c - 1`. -/
theorem outSet_union {a b c : ℕ} (h : a ≤ b) (h' : b ≤ c) : outSet a b ∪ outSet b c = outSet a c := by
  ext y; simp only [Finset.mem_union, mem_outSet]; omega
theorem outSet_disjoint (a b c : ℕ) : Disjoint (outSet a b) (outSet b c) := by
  rw [Finset.disjoint_left]; intro y hy hy'; rw [mem_outSet] at hy hy'; omega

variable (d : Dev nD) (i : grid0.Coords)

omit [FloatOps F] in
theorem out_split {a b c : ℕ} (h : a ≤ b) (h' : b ≤ c) (f : S10240x128.Idx → F .f32) :
    (oLoc d i ↦[outSet a c]{fullShare} f : sProp (MR F)) ⊢ iprop((oLoc d i ↦[outSet a b]{fullShare} f) ∗ (oLoc d i ↦[outSet b c]{fullShare} f)) := by
  rw [← outSet_union h h']; exact (pointsTo_union (ℓ := oLoc d i) (outSet_disjoint a b c)).1
omit [FloatOps F] in
theorem out_join {a b c : ℕ} (h : a ≤ b) (h' : b ≤ c) (f : S10240x128.Idx → F .f32) :
    iprop((oLoc d i ↦[outSet a b]{fullShare} f) ∗ (oLoc d i ↦[outSet b c]{fullShare} f)) ⊢ (oLoc d i ↦[outSet a c]{fullShare} f : sProp (MR F)) := by
  rw [← outSet_union h h']; exact (pointsTo_union (ℓ := oLoc d i) (outSet_disjoint a b c)).2

variable (x : S10000x128.Idx → F .f32) (ix : S2560x128.Idx → BitVec 32)

/-- Slot `b` of the gathered rows free, at some contents; slot `b` of the results free. -/
abbrev idleSlot (b : Fin 2) (q s : PosShare TreeShare) (sm : DmaSems sig S_) : sProp (MR F) :=
  iprop((∃ f, slotPts d i x ix b q s f) ∗ sem0 d i sm)
abbrev idleRes (b : Fin 2) (sm : DmaSems sig S_) : sProp (MR F) :=
  iprop((∃ u : S2x4x128.Idx → F .f32, uLoc d i ↦[resSet b]{fullShare} u) ∗ sem0 d i sm)

/-- Slot 0 before trip `n`: its gather in flight, if trip `n` is a trip. -/
def evenI (q s : PosShare TreeShare) (n : ℕ) : sProp (MR F) :=
  if n < 40 then gatherFly d i x ix 0 q s cc0_scratch3 (2 * n) else idleSlot d i x ix 0 q s cc0_scratch3
/-- Slot `b` of the results before trip `n`: the copy out of the trip before in flight, if there was one. -/
def outI (b : Fin 2) (sm : DmaSems sig S_) (n : ℕ) : sProp (MR F) :=
  if 0 < n then outFly d i x ix b sm (base i + 2 * (n - 1) + b.val) else idleRes d i b sm
/-- The chunk that copy wrote. -/
def prevO (b : Fin 2) (n : ℕ) : sProp (MR F) :=
  if 0 < n then (oLoc d i ↦[outSet (base i + 2 * (n - 1) + b.val) (base i + 2 * (n - 1) + b.val + 1)]{fullShare} outVal x ix) else iprop(emp)

/-- Before trip `n`. -/
def Inv (q s : PosShare TreeShare) (g : S10240x128.Idx → F .f32) (O : CellTallies nD τ sig (HIx 1)) (W : Waits sig (HIx 1)) (n : ℕ) : sProp (MR F) :=
  iprop(evenI d i x ix q.left s.left n ∗ idleSlot d i x ix 1 q.right s.right cc0_scratch4
    ∗ outI d i x ix 0 cc0_scratch5 n ∗ outI d i x ix 1 cc0_scratch6 n
    ∗ (oLoc d i ↦[outSet (base i) (base i + 2 * (n - 1))]{fullShare} outVal x ix)
    ∗ (oLoc d i ↦[outSet (base i + 2 * n) (base i + 80)]{fullShare} g)
    ∗ owing d i O W ∗ Transfers.MayWaits (tV d i) (default : HIx 1) O)

variable {x ix}

/-- The two chunks of the pair before join the chunks done. -/
theorem done_join (n : ℕ) :
    iprop((oLoc d i ↦[outSet (base i) (base i + 2 * (n - 1))]{fullShare} outVal x ix) ∗ prevO d i x ix 0 n ∗ prevO d i x ix 1 n)
      ⊢ (oLoc d i ↦[outSet (base i) (base i + 2 * (n + 1 - 1))]{fullShare} outVal x ix : sProp (MR F)) := by
  unfold prevO
  cases n with
  | zero => iintro ⟨Ho, -, -⟩; iexact Ho
  | succ n =>
    rw [if_pos (Nat.succ_pos n), if_pos (Nat.succ_pos n)]
    iintro ⟨Ho, H0, H1⟩
    have h0 := out_join (F := F) d i (a := base i) (b := base i + 2 * n) (c := base i + 2 * n + 1) (by omega) (by omega) (outVal x ix)
    have h1 := out_join (F := F) d i (a := base i) (b := base i + 2 * n + 1) (c := base i + 2 * n + 1 + 1) (by omega) (by omega) (outVal x ix)
    ihave Hj := h0 $$ [Ho H0]
    · isplitl [Ho]
      · iexact Ho
      · iexact H0
    iapply h1
    isplitl [Hj]
    · iexact Hj
    · iexact H1

variable {O : CellTallies nD τ sig (HIx 1)} {W : Waits sig (HIx 1)} {α : Type} {Q : α → sProp (MR F)}

/-- The wait for the copy out of the trip before, if there was one. -/
theorem wp_waitPrev {b : Fin 2} {t : Fin k0_t1_loop.trips} {sm : DmaSems sig S_} {kk : PUnit → PR (F := F) i α} :
    iprop(outI d i x ix b sm t.val ∗ owing d i O W ∗ Transfers.MayWaits (tV d i) (default : HIx 1) O)
      ⊢ iprop((idleRes d i b sm ∗ prevO d i x ix b t.val ∗ owing d i O W -∗ wpT d i (kk ⟨⟩) Q) -∗ wpT d i (waitPrev i b t sm >>= kk) Q) := by
  unfold waitPrev outI prevO
  by_cases ht : 0 < t.val
  · rw [if_pos ((cond_out b t).2 ht), if_pos ht, if_pos ht]
    iintro H Hk
    iapply (wp_waitDma d i (src := resM b) (dst := outM ![0, 0] inb_S10240x128_S4x128_0_0) (kk := kk)) $$ H
    iintro ⟨⟨Ho, Hu⟩, Hv, HO⟩
    iapply Hk
    isplitl [Hu Hv]
    · isplitl [Hu] <;> iassumption
    isplitl [Ho] <;> iassumption
  · rw [if_neg (fun h => ht ((cond_out b t).1 h)), if_neg ht, if_neg ht]
    iintro ⟨Hu, HO, -⟩ Hk
    iapply Hk
    isplitl [Hu]; · iexact Hu
    isplitr; · iempintro
    iexact HO

/-- Half a trip: the gather of list `m` waited for, the copy out of the trip before waited for, the four rows computed and
    their copy out started. -/
theorem wp_half {b : Fin 2} {t : Fin k0_t1_loop.trips} {q s : PosShare TreeShare} {smg smo : DmaSems sig S_} {m : ℕ}
    {o : Fin 2 → ℕ} (ho : o = ![4 * (base i + m), 0]) (h : ∀ a, o a + S4x128.size a ≤ S10240x128.size a) {g : S10240x128.Idx → F .f32}
    {kk : PUnit → PR (F := F) i α} :
    iprop(gatherFly d i x ix b q s smg m ∗ outI d i x ix b smo t.val ∗ (oLoc d i ↦[outSet (base i + m) (base i + m + 1)]{fullShare} g)
        ∗ owing d i O W ∗ Transfers.MayWaits (tV d i) (default : HIx 1) O)
      ⊢ iprop((idleSlot d i x ix b q s smg ∗ outFly d i x ix b smo (base i + m) ∗ prevO d i x ix b t.val ∗ owing d i O W -∗ wpT d i (kk ⟨⟩) Q)
        -∗ wpT d i (waitGather i b smg >>= fun _ => waitPrev i b t smo >>= fun _ => chunkProg i b >>= fun _ => putOut i b o h smo >>= kk) Q) := by
  iintro ⟨Hg, Hout, Ho, HO, #Hmw⟩ Hk
  iapply (wp_waitDma d i (src := tabM) (dst := slotM b)) $$ [Hg HO]
  · isplitl [Hg]; · iexact Hg
    isplitl [HO]; · iexact HO
    iexact Hmw
  iintro ⟨⟨Hr, Hx, Hs⟩, Hvg, HO⟩
  iapply (wp_waitPrev d i) $$ [Hout HO]
  · isplitl [Hout]; · iexact Hout
    isplitl [HO]; · iexact HO
    iexact Hmw
  iintro ⟨⟨⟨%u, Hu⟩, Hvo⟩, Hprev, HO⟩
  iapply (wp_chunk d i (b := b) (SR := slotSet b) (SU := resSet b) (fun y => mem_slotSet.2) (fun y => mem_resSet.symm)) $$ [Hr Hu]
  · isplitl [Hr] <;> iassumption
  iintro ⟨Hr, Hu⟩
  iapply (wp_putOut d i ho h) $$ [Hu Ho Hvo]
  · isplitl [Hu]; · iexact Hu
    isplitl [Ho] <;> iassumption
  iintro Hf
  iapply Hk
  isplitl [Hr Hx Hs Hvg]
  · isplitr [Hvg]
    · iexists _
      isplitl [Hr]; · iexact Hr
      isplitl [Hx] <;> iassumption
    · iexact Hvg
  isplitl [Hf]; · iexact Hf
  isplitl [Hprev] <;> iassumption

set_option maxHeartbeats 4000000 in
/-- The gather of the next trip's even list started, if there is a next trip. -/
theorem wp_startEven (hix : ∀ y, (ix y).toNat < 10000) {t : Fin k0_t1_loop.trips} {q s : PosShare TreeShare} {kk : PUnit → PR (F := F) i α} :
    idleSlot d i x ix 0 q s cc0_scratch3
      ⊢ iprop((evenI d i x ix q s (t.val + 1) -∗ wpT d i (kk ⟨⟩) Q) -∗ wpT d i (startEven i t >>= kk) Q) := by
  unfold startEven evenI
  by_cases ht : t.val + 1 < 40
  · rw [dif_pos ((cond_even t).2 ht), if_pos ht]
    have ho : k0_off36 t = ![2 * (t.val + 1), 0] := k0_off36_eq t
    iintro ⟨⟨%f, H⟩, Hv⟩ Hk
    iapply (wp_gather d i hix (n := 2 * (t.val + 1)) (by omega) ho (k0_off36_inb t ((cond_even t).2 ht))) $$ [H Hv]
    · isplitl [H] <;> iassumption
    iexact Hk
  · rw [dif_neg (fun h => ht ((cond_even t).1 h)), if_neg ht]
    iintro H Hk
    iapply Hk $$ H

set_option maxHeartbeats 4000000 in
/-- One trip. -/
theorem wp_trip (hix : ∀ y, (ix y).toNat < 10000) (q s : PosShare TreeShare) (g : S10240x128.Idx → F .f32) (t : Fin k0_t1_loop.trips) (acc : Unit) :
    Inv d i x ix q s g O W t.val ⊢ wpT d i (trip i t) fun _ => Inv d i x ix q s g O W (t.val + 1) := by
  have ht : t.val < 40 := lt_of_lt_of_le t.isLt k0_t1_abs.2.1
  have hoff : ∀ r : Fin 2, k0_off35 i t (BitVec.ofNat 32 r.val) = ![4 * (base i + (2 * t.val + r.val)), 0] := fun r => by
    rw [k0_off35_eq]; unfold base wid; congr 1; omega
  rw [← bind_pure (trip i t)]
  unfold trip Inv
  simp only [bind_assoc]
  iintro ⟨He, ⟨⟨%f, H1⟩, Hv1⟩, Hu0, Hu1, Hdone, Htodo, HO, #Hmw⟩
  -- the odd list's gather
  unfold startOdd
  rw [dif_pos (cond_odd t)]
  iapply (wp_gather d i hix (n := 2 * t.val + 1) (by omega) (k0_off2_eq t) _) $$ [H1 Hv1]
  · isplitl [H1] <;> iassumption
  iintro Hg1
  -- the two chunks of this pair
  ihave Hs := (out_split d i (b := base i + 2 * t.val + 1) (by omega) (by omega) g) $$ Htodo
  icases Hs with ⟨Ho0, Htodo⟩
  ihave Hs := (out_split d i (b := base i + 2 * t.val + 1 + 1) (by omega) (by omega) g) $$ Htodo
  icases Hs with ⟨Ho1, Htodo⟩
  ihave Hg0 := (show evenI d i x ix q.left s.left t.val ⊢ gatherFly d i x ix 0 q.left s.left cc0_scratch3 (2 * t.val) from
    Entails.of_eq (if_pos ht)) $$ He
  iapply (wp_half d i (m := 2 * t.val) (hoff 0) _) $$ [Hg0 Hu0 Ho0 HO]
  · isplitl [Hg0]; · iexact Hg0
    isplitl [Hu0]; · iexact Hu0
    isplitl [Ho0]; · iexact Ho0
    isplitl [HO]; · iexact HO
    iexact Hmw
  iintro ⟨H0, Hf0, Hp0, HO⟩
  iapply (wp_startEven d i hix) $$ H0
  iintro He
  iapply (wp_half d i (m := 2 * t.val + 1) (hoff 1) _) $$ [Hg1 Hu1 Ho1 HO]
  · isplitl [Hg1]; · iexact Hg1
    isplitl [Hu1]; · iexact Hu1
    isplitl [Ho1]; · iexact Ho1
    isplitl [HO]; · iexact HO
    iexact Hmw
  iintro ⟨H1, Hf1, Hp1, HO⟩
  unfold wpT
  rw [Prog.pure_eq_ret, wp_ret]
  imodintro
  isplitl [He]; · iexact He
  isplitl [H1]; · iexact H1
  unfold outI
  rw [if_pos (Nat.succ_pos t.val), if_pos (Nat.succ_pos t.val)]
  isplitl [Hf0]; · iexact Hf0
  isplitl [Hf1]; · iexact Hf1
  isplitl [Hdone Hp0 Hp1]
  · iapply (done_join d i t.val)
    isplitl [Hdone]; · iexact Hdone
    isplitl [Hp0] <;> iassumption
  isplitl [Htodo]; · iexact Htodo
  isplitl [HO]; · iexact HO
  iexact Hmw

/-- The padded neighbour lists on device `d`. -/
abbrev iLoc : Loc nD τ sig := (iV).view.loc (tV d i)

/-- A slot's elements: those of slot 0 and those of slot 1. -/
theorem slots_union : slotSet 0 ∪ slotSet 1 = Finset.univ := by
  ext y
  have : (y 0).val < 2 := (y 0).isLt
  simp only [Finset.mem_union, mem_slotSet, Finset.mem_univ, iff_true]
  show (y 0).val = 0 ∨ (y 0).val = 1
  omega
theorem slots_disjoint : Disjoint (slotSet 0) (slotSet 1) := by
  rw [Finset.disjoint_left]; intro y hy hy'; rw [mem_slotSet] at hy hy'; exact absurd (hy.symm.trans hy') (by decide)
theorem res_union : resSet 0 ∪ resSet 1 = Finset.univ := by
  ext y
  have : (y 0).val < 2 := (y 0).isLt
  simp only [Finset.mem_union, mem_resSet, Finset.mem_univ, iff_true]
  show (y 0).val = 0 ∨ (y 0).val = 1
  omega
theorem res_disjoint : Disjoint (resSet 0) (resSet 1) := by
  rw [Finset.disjoint_left]; intro y hy hy'; rw [mem_resSet] at hy hy'; exact absurd (hy.symm.trans hy') (by decide)

/-- The tile's own buffers, each at some contents, and its semaphores at zero. -/
abbrev ownPts : sProp (MR F) :=
  iprop((∃ f : S80x128.Idx → BitVec 32, sLoc d i ↦{fullShare} f) ∗ (∃ f : S2x128x128.Idx → F .f32, rLoc d i ↦{fullShare} f)
    ∗ (∃ f : S2x4x128.Idx → F .f32, uLoc d i ↦{fullShare} f))
abbrev ownSems : sProp (MR F) :=
  iprop(sem0 d i cc0_scratch3 ∗ sem0 d i cc0_scratch4 ∗ sem0 d i cc0_scratch5 ∗ sem0 d i cc0_scratch6 ∗ sem0 d i cc0_scoped0)
/-- What a task is handed of the arrays: a share of the table, its lists, its chunks of the padded result. -/
abbrev argPts (q : PosShare TreeShare) (x : S10000x128.Idx → F .f32) (ix : S2560x128.Idx → BitVec 32) (g : S10240x128.Idx → F .f32) : sProp (MR F) :=
  iprop((xLoc d i ↦{q} x) ∗ (iLoc d i ↦[idxSet (wid i)]{fullShare} ix) ∗ (oLoc d i ↦[outSet (base i) (base i + 80)]{fullShare} g))

set_option maxHeartbeats 4000000 in
/-- The task leaves its chunks of the padded result holding the maxima over the rows its lists name. -/
theorem wp_task (hix : ∀ y, (ix y).toNat < 10000) (q : PosShare TreeShare) (g : S10240x128.Idx → F .f32) :
    iprop(argPts d i q x ix g ∗ ownPts d i ∗ ownSems d i ∗ owes (tV d i) O W ∗ Transfers.MayWaits (tV d i) (default : HIx 1) O)
      ⊢ wpT d i (task (F := F) i) fun _ => iprop(argPts d i q x ix (outVal x ix) ∗ ownPts d i ∗ ownSems d i ∗ owing d i O W) := by
  unfold task
  iintro ⟨⟨Hx, Hi, Ho⟩, ⟨⟨%fs, Hs⟩, ⟨%fr, Hr⟩, ⟨%fu, Hu⟩⟩, ⟨H3, H4, H5, H6, Hsc⟩, HO, #Hmw⟩
  -- the lists fetched
  unfold getLists waitLists
  iapply (Transfers.wp_dmaLocal countersEmb 𝒱₀ (tV d i) none (src := listsM i) (via := .same) (dst := sV) (sm := .dma cc0_scoped0.sem)
    (Sd := Finset.univ) (default : HIx 1) (sV).view.dmaCredit rfl (by decide) (Finset.subset_univ _)) $$ [Hi Hs Hsc]
  · isplitl [Hi]; · rw [lists_set]; iexact Hi
    isplitl [Hs]; · iexact Hs
    iexact Hsc
  iintro Hf
  iapply (wp_waitDma d i (W := W) (src := listsM i) (dst := sV)) $$ [Hf HO]
  · isplitl [Hf]; · iexact Hf
    isplitl [HO]
    · iexists W; isplitr
      · ipureintro; exact fun p hp => .inl hp
      · iexact HO
    iexact Hmw
  rw [lists_val, lists_set]
  iintro ⟨⟨Hs, Hi⟩, Hsc, HO⟩
  -- shares of the table and of the lists for the two slots
  ihave Hxs := (pointsTo_share (ℓ := xLoc d i) (PosShare.mem_left_op_right q)).1 $$ Hx
  icases Hxs with ⟨Hx0, Hx1⟩
  ihave Hss := (pointsTo_share (ℓ := sLoc d i) (PosShare.mem_left_op_right fullShare)).1 $$ Hs
  icases Hss with ⟨Hs0, Hs1⟩
  ihave Hrs := (show (rLoc d i ↦{fullShare} fr : sProp (MR F)) ⊢ iprop((rLoc d i ↦[slotSet 0]{fullShare} fr) ∗ (rLoc d i ↦[slotSet 1]{fullShare} fr)) from by
    rw [← slots_union]; exact (pointsTo_union (ℓ := rLoc d i) slots_disjoint).1) $$ Hr
  icases Hrs with ⟨Hr0, Hr1⟩
  ihave Hus := (show (uLoc d i ↦{fullShare} fu : sProp (MR F)) ⊢ iprop((uLoc d i ↦[resSet 0]{fullShare} fu) ∗ (uLoc d i ↦[resSet 1]{fullShare} fu)) from by
    rw [← res_union]; exact (pointsTo_union (ℓ := uLoc d i) res_disjoint).1) $$ Hu
  icases Hus with ⟨Hu0, Hu1⟩
  iapply (wp_gather d i hix (b := 0) (q := q.left) (s := fullShare.left) (n := 0) (f := fr) (x := x) (by omega) rfl inb_S80x128_S1x128_0_0) $$ [Hr0 Hx0 Hs0 H3]
  · isplitr [H3]
    · isplitl [Hr0]; · iexact Hr0
      isplitl [Hx0] <;> iassumption
    · iexact H3
  iintro Hg
  iapply (Scf.wp_for_bind frame (wpE (defs₀ (F := F)) 𝒱₀ (tV d i) none) Set.univ _ _ _ k0_t1_ok _ (fun t _ => trip i t)
    (fun n _ => Inv d i x ix q fullShare g O W n) (wp_trip d i hix q fullShare g)) $$ [Hg Hr1 Hx1 Hs1 H4 Hu0 Hu1 H5 H6 Ho HO]
  · unfold Inv evenI outI
    rw [if_pos (show 0 < 40 by omega), if_neg (show ¬ 0 < 0 by omega), if_neg (show ¬ 0 < 0 by omega)]
    isplitl [Hg]; · iexact Hg
    isplitl [Hr1 Hx1 Hs1 H4]
    · isplitr [H4]
      · iexists fr
        isplitl [Hr1]; · iexact Hr1
        isplitl [Hx1] <;> iassumption
      · iexact H4
    isplitl [Hu0 H5]
    · isplitl [Hu0]
      · iexists fu; iexact Hu0
      · iexact H5
    isplitl [Hu1 H6]
    · isplitl [Hu1]
      · iexists fu; iexact Hu1
      · iexact H6
    isplitr
    · rw [show outSet (base i) (base i + 2 * (0 - 1)) = ∅ from by
        ext y; rw [mem_outSet]; simp only [Finset.notMem_empty, iff_false]; omega, pointsTo_empty]
      iempintro
    isplitl [Ho]; · iexact Ho
    isplitl [HO]; · iexact HO
    iexact Hmw
  iintro %acc HI
  rw [show Scf.trips _ _ _ = 40 from trips_pair]
  unfold Inv evenI outI
  rw [if_neg (show ¬ 40 < 40 by omega), if_pos (show 0 < 40 by omega), if_pos (show 0 < 40 by omega)]
  icases HI with ⟨⟨⟨%f0, Hr0, Hx0, Hs0⟩, H3⟩, ⟨⟨%f1, Hr1, Hx1, Hs1⟩, H4⟩, Hf0, Hf1, Hdone, -, HO, -⟩
  -- the last two copies out
  unfold waitOut
  iapply (wp_waitDma d i (src := resM 0) (dst := outM ![0, 0] inb_S10240x128_S4x128_0_0)) $$ [Hf0 HO]
  · isplitl [Hf0]; · iexact Hf0
    isplitl [HO]; · iexact HO
    iexact Hmw
  iintro ⟨⟨Ho0, %u0, Hu0⟩, H5, HO⟩
  iapply (wp_waitDma d i (src := resM 1) (dst := outM ![0, 0] inb_S10240x128_S4x128_0_0)) $$ [Hf1 HO]
  · isplitl [Hf1]; · iexact Hf1
    isplitl [HO]; · iexact HO
    iexact Hmw
  iintro ⟨⟨Ho1, %u1, Hu1⟩, H6, HO⟩
  unfold wpT
  simp only [Prog.pure_eq_ret, Prog.bind, wp_ret]
  imodintro
  isplitl [Hx0 Hx1 Hi Hdone Ho0 Ho1]
  · isplitl [Hx0 Hx1]
    · iapply (pointsTo_share (ℓ := xLoc d i) (PosShare.mem_left_op_right q)).2
      isplitl [Hx0] <;> iassumption
    isplitl [Hi]; · iexact Hi
    have h0 := out_join (F := F) d i (a := base i) (b := base i + 2 * (40 - 1)) (c := base i + 2 * (40 - 1) + 1) (by omega) (by omega) (outVal x ix)
    have h1 := out_join (F := F) d i (a := base i) (b := base i + 2 * (40 - 1) + 1) (c := base i + 80) (by omega) (by omega) (outVal x ix)
    ihave Hj := h0 $$ [Hdone Ho0]
    · isplitl [Hdone]
      · iexact Hdone
      · iexact Ho0
    iapply h1
    isplitl [Hj]
    · iexact Hj
    · iexact Ho1
  isplitl [Hs0 Hs1 Hr0 Hr1 Hu0 Hu1]
  · isplitl [Hs0 Hs1]
    · iexists lstVal ix i
      iapply (pointsTo_share (ℓ := sLoc d i) (PosShare.mem_left_op_right fullShare)).2
      isplitl [Hs0] <;> iassumption
    isplitl [Hr0 Hr1]
    · iexists (slotSet 1).piecewise f1 f0
      rw [← slots_union]
      iapply (pointsTo_join (ℓ := rLoc d i) slots_disjoint)
      isplitl [Hr0] <;> iassumption
    · iexists (resSet 1).piecewise u1 u0
      rw [← res_union]
      iapply (pointsTo_join (ℓ := uLoc d i) res_disjoint)
      isplitl [Hu0] <;> iassumption
  isplitl [H3 H4 H5 H6 Hsc]
  · isplitl [H3]; · iexact H3
    isplitl [H4]; · iexact H4
    isplitl [H5]; · iexact H5
    isplitl [H6] <;> iassumption
  iexact HO

end Cert.Proof
-- ==== Proof.Launch.lean ====
/-
  The launch's pieces: a share of the table, the lists and the chunks of the padded result for each of the 32 tiles; what
  the handshakes carry; and each tile's obligation, from `wp_task`.
-/
module

public import Idealize.ShloMosaic.Lib.SparseCore.Quiescent
public import Idealize.ShloMosaic.Lib.Pipeline.Kit
public import proofs.«01_k».proof.Proof.Tile

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

omit [FloatOps F] in
/-- Assertions that entail each other are equal. -/
theorem eq_of_entails {A B : sProp (MR F)} (h : A ⊢ B) (h' : B ⊢ A) : A = B := BI.Entails.antisymm h h'

/-! ## Lists of elements out of a separating conjunction -/

/-- The elements of a list without repetition, one by one, and the rest. -/
theorem bigSep_list {α : Type} [DecidableEq α] (Φ : α → sProp (MR F)) :
    ∀ (l : List α) (s : Finset α), l.Nodup → (∀ a ∈ l, a ∈ s) →
      bigSep s Φ = l.foldr (fun a R => iprop(Φ a ∗ R)) (bigSep (l.foldl Finset.erase s) Φ)
  | [], _, _, _ => rfl
  | a :: l, s, hl, hs => by
    rw [SparseCore.bigSep_erase' (hs a List.mem_cons_self), List.foldr_cons, List.foldl_cons,
      bigSep_list Φ l (s.erase a) (List.nodup_cons.mp hl).2 fun b hb =>
        Finset.mem_erase.mpr ⟨fun e => (List.nodup_cons.mp hl).1 (e ▸ hb), hs b (List.mem_cons_of_mem _ hb)⟩]

/-! ## The tiles' parts of the arrays -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
/-- The coordinates of a pair. -/
abbrev tileAt (p : Fin 2 × Fin 16) : grid0.Coords := coordsV p.1 p.2

theorem wid_tileAt (p : Fin 2 × Fin 16) : wid (tileAt p) = 2 * p.2.val + p.1.val := rfl
/-- Distinct tiles have distinct numbers, and every number below 32 is a tile's. -/
theorem wid_inj {p p' : Fin 2 × Fin 16} (h : wid (tileAt p) = wid (tileAt p')) : p = p' := by
  rw [wid_tileAt, wid_tileAt] at h
  have := p.1.isLt; have := p'.1.isLt
  exact Prod.ext (Fin.ext (by omega)) (Fin.ext (by omega))
theorem wid_surj {w : ℕ} (h : w < 32) : ∃ p, wid (tileAt p) = w :=
  ⟨(⟨w % 2, by omega⟩, ⟨w / 2, by omega⟩), by rw [wid_tileAt]; show 2 * (w / 2) + w % 2 = w; omega⟩

theorem idx_cover : (Finset.univ : Finset (Fin 2 × Fin 16)).biUnion (fun p => idxSet (wid (tileAt p))) = Finset.univ := by
  ext y
  have hy : (y 0).val < 2560 := (y 0).isLt
  obtain ⟨p, hp⟩ := wid_surj (w := (y 0).val / 80) (by omega)
  simp only [Finset.mem_biUnion, Finset.mem_univ, true_and, iff_true]
  exact ⟨p, mem_idxSet.mpr hp.symm⟩
theorem idx_disjoint : ∀ p ∈ (Finset.univ : Finset (Fin 2 × Fin 16)), ∀ p' ∈ (Finset.univ : Finset (Fin 2 × Fin 16)), p ≠ p' →
    Disjoint (idxSet (wid (tileAt p))) (idxSet (wid (tileAt p'))) := fun p _ p' _ h => by
  rw [Finset.disjoint_left]; intro y hy hy'; rw [mem_idxSet] at hy hy'
  exact h (wid_inj (hy.symm.trans hy'))

/-- The chunks of the tile at `p`. -/
abbrev outOf (p : Fin 2 × Fin 16) : Finset S10240x128.Idx := outSet (base (tileAt p)) (base (tileAt p) + 80)
theorem out_cover : (Finset.univ : Finset (Fin 2 × Fin 16)).biUnion outOf = Finset.univ := by
  ext y
  have hy : (y 0).val < 10240 := (y 0).isLt
  obtain ⟨p, hp⟩ := wid_surj (w := (y 0).val / 4 / 80) (by omega)
  simp only [Finset.mem_biUnion, Finset.mem_univ, true_and, iff_true]
  refine ⟨p, mem_outSet.mpr ?_⟩
  unfold base; rw [hp]; omega
theorem out_disjoint' : ∀ p ∈ (Finset.univ : Finset (Fin 2 × Fin 16)), ∀ p' ∈ (Finset.univ : Finset (Fin 2 × Fin 16)), p ≠ p' →
    Disjoint (outOf p) (outOf p') := fun p _ p' _ h => by
  rw [Finset.disjoint_left]; intro y hy hy'; rw [mem_outSet] at hy hy'
  unfold base at hy hy'
  exact h (wid_inj (by omega))

/-- A share of a buffer parts into one share per member of a finite set and one left over, whatever the contents. -/
theorem shares_exist {ι : Type} [DecidableEq ι] (s : Finset ι) : ∀ q : PosShare TreeShare, ∃ (g : ι → PosShare TreeShare) (r : PosShare TreeShare),
    ∀ (ℓ : Loc nD τ sig) (f : Buf (Elt F) ℓ), (ℓ ↦{q} f : sProp (MR F)) = iprop((bigSep s fun i => ℓ ↦{g i} f) ∗ ℓ ↦{r} f) := by
  induction s using Finset.induction_on with
  | empty =>
    refine fun q => ⟨fun _ => q, q, fun ℓ f => ?_⟩
    rw [bigSep_empty]
    refine eq_of_entails ?_ ?_
    · iintro H
      isplitr
      · iempintro
      · iexact H
    · iintro ⟨-, H⟩; iexact H
  | insert a s ha ih =>
    intro q
    obtain ⟨g, r, h⟩ := ih q
    refine ⟨Function.update g a r.left, r.right, fun ℓ f => ?_⟩
    have hr := pointsTo_share (ℓ := ℓ) (I := Finset.univ) (f := f) (PosShare.mem_left_op_right r) (Ix := HIx 1) (Val := Elt F) (Name := ℕ) (U := UU) (Lvl := ℕ)
    have hc : (bigSep s fun i => (ℓ ↦{Function.update g a r.left i} f : sProp (MR F))) = bigSep s fun i => ℓ ↦{g i} f :=
      bigSep_congr fun i hi => by rw [Function.update_of_ne (show i ≠ a from fun e => ha (e ▸ hi))]
    rw [h ℓ f, SparseCore.bigSep_insert' ha, Function.update_self, hc]
    refine eq_of_entails ?_ ?_
    · iintro ⟨Hs, Hr⟩
      ihave Hr := hr.1 $$ Hr
      icases Hr with ⟨H1, H2⟩
      isplitr [H2]
      · isplitl [H1] <;> iassumption
      · iexact H2
    · iintro ⟨⟨H1, Hs⟩, H2⟩
      isplitl [Hs]; · iexact Hs
      iapply hr.2
      isplitl [H1] <;> iassumption

/-- The tile's share of the table, and the share no tile is handed. -/
def tileShare : Fin 2 × Fin 16 → PosShare TreeShare := (shares_exist (F := F) (Finset.univ : Finset (Fin 2 × Fin 16)) fullShare).choose
def restShare : PosShare TreeShare := (shares_exist (F := F) (Finset.univ : Finset (Fin 2 × Fin 16)) fullShare).choose_spec.choose
theorem shares_eq (ℓ : Loc nD τ sig) (f : Buf (Elt F) ℓ) :
    (ℓ ↦{fullShare} f : sProp (MR F)) = iprop((bigSep Finset.univ fun p => ℓ ↦{tileShare (F := F) p} f) ∗ ℓ ↦{restShare (F := F)} f) :=
  (shares_exist (F := F) (Finset.univ : Finset (Fin 2 × Fin 16)) fullShare).choose_spec.choose_spec ℓ f

/-! ## The arrays at the TensorCore, and the three of them parted among the tiles -/

variable (m : (ℓ : Loc nD τ sig) → Buf (Elt F) ℓ) (ρ : Dev nD → PrngReg)

abbrev xL (d : Dev nD) : Loc nD τ sig := (SparseCore.T d).loc main_arg0
abbrev nL (d : Dev nD) : Loc nD τ sig := (SparseCore.T d).loc main_arg1
abbrev iL (d : Dev nD) : Loc nD τ sig := (SparseCore.T d).loc main_v1
abbrev oL (d : Dev nD) : Loc nD τ sig := (SparseCore.T d).loc main_v2
abbrev rL (d : Dev nD) : Loc nD τ sig := (SparseCore.T d).loc main_v3

/-- The neighbour lists as the kernel reads them: four to a row, and 60 rows of zeros after them. -/
def lists (d : Dev nD) : S2560x128.Idx → BitVec 32 :=
  pad S2560x128 ![0, 0] ![60, 0] ![0, 0] (shapeCast S2500x128 (m (nL d)) shapeCasts_S10000x32_S2500x128) (constantI S_ 32 0#32)
    pads_S2500x128_S2560x128_0600_000 h_S_

/-- What the tile at `i` is handed: the padded result at the contents `g`. -/
abbrev handed (d : Dev nD) (i : grid0.Coords) (q : PosShare TreeShare) (g : S10240x128.Idx → F .f32) : sProp (MR F) :=
  argPts d i q (m (xL d)) (lists m d) g

/-- The three arrays whole are what the 32 tiles are handed and the left over share of the table. -/
theorem arrays_eq (d : Dev nD) (g : S10240x128.Idx → F .f32) :
    iprop((xL d ↦{fullShare} m (xL d)) ∗ (iL d ↦{fullShare} lists m d) ∗ (oL d ↦{fullShare} g))
      = (iprop((bigSep Finset.univ fun c : Fin 2 => bigSep Finset.univ fun s : Fin 16 => handed m d (tileAt (c, s)) (tileShare (F := F) (c, s)) g)
          ∗ xL d ↦{restShare (F := F)} m (xL d)) : sProp (MR F)) := by
  have hx := shares_eq (F := F) (xL d) (m (xL d))
  have hi : (iL d ↦{fullShare} lists m d : sProp (MR F)) = bigSep Finset.univ fun p : Fin 2 × Fin 16 => iL d ↦[idxSet (wid (tileAt p))]{fullShare} lists m d := by
    rw [← pointsTo_biUnion Finset.univ (ℓ := iL d) (fun p => idxSet (wid (tileAt p))) idx_disjoint, idx_cover]; try rfl
  have ho : (oL d ↦{fullShare} g : sProp (MR F)) = bigSep Finset.univ fun p : Fin 2 × Fin 16 => oL d ↦[outOf p]{fullShare} g := by
    rw [← pointsTo_biUnion Finset.univ (ℓ := oL d) outOf out_disjoint', out_cover]; try rfl
  rw [hx, hi, ho, ← bigSep_univ_prod (fun p : Fin 2 × Fin 16 => handed m d (tileAt p) (tileShare (F := F) p) g)]
  show _ = iprop((bigSep Finset.univ fun p : Fin 2 × Fin 16 => iprop((xL d ↦{tileShare (F := F) p} m (xL d))
    ∗ (iL d ↦[idxSet (wid (tileAt p))]{fullShare} lists m d) ∗ (oL d ↦[outOf p]{fullShare} g))) ∗ _)
  rw [bigSep_sep', bigSep_sep']
  refine eq_of_entails ?_ ?_
  · iintro ⟨⟨Hx, Hr⟩, Hi, Ho⟩
    isplitr [Hr]
    · isplitl [Hx]; · iexact Hx
      isplitl [Hi] <;> iassumption
    · iexact Hr
  · iintro ⟨⟨Hx, Hi, Ho⟩, Hr⟩
    isplitl [Hx Hr]
    · isplitl [Hx] <;> iassumption
    isplitl [Hi] <;> iassumption

/-! ## What the handshakes carry -/

/-- The padded result the tiles leave. -/
abbrev outV (d : Dev nD) : S10240x128.Idx → F .f32 := outVal (m (xL d)) (lists m d)

/-- A tile takes its part of the arrays and brings it back with the result written; a SparseCore takes its tiles' parts. -/
def P : (K (F := F)).Pay (nD := nD) (Val := Elt F) (Name := ℕ) (U := UU) where
  st := fun q d c => match q with | 0 => bigSep Finset.univ fun s : Fin 16 => handed m d (coordsV c s) (tileShare (F := F) (c, s)) (m (oL d))
  dn := fun q d c => match q with | 0 => bigSep Finset.univ fun s : Fin 16 => handed m d (coordsV c s) (tileShare (F := F) (c, s)) (outV m d)
  go := fun q d c s => match q with | 0 => handed m d (coordsV c s) (tileShare (F := F) (c, s)) (m (oL d))
  td := fun q d c s => match q with | 0 => handed m d (coordsV c s) (tileShare (F := F) (c, s)) (outV m d)
  x := fun _ _ => iprop(emp)

instance P_storable : (P (F := F) m).IsStorable where
  st q d c := match q with
    | 0 => (inferInstance : BI.Storable (upEmb : UEmb _ (MR F))
        (bigSep Finset.univ fun s : Fin 16 => handed m d (coordsV c s) (tileShare (F := F) (c, s)) (m (oL d))))
  dn q d c := match q with
    | 0 => (inferInstance : BI.Storable (upEmb : UEmb _ (MR F))
        (bigSep Finset.univ fun s : Fin 16 => handed m d (coordsV c s) (tileShare (F := F) (c, s)) (outV m d)))
  go q d c s := match q with
    | 0 => (inferInstance : BI.Storable (upEmb : UEmb _ (MR F)) (handed m d (coordsV c s) (tileShare (F := F) (c, s)) (m (oL d))))
  td q d c s := match q with
    | 0 => (inferInstance : BI.Storable (upEmb : UEmb _ (MR F)) (handed m d (coordsV c s) (tileShare (F := F) (c, s)) (outV m d)))

theorem vecSplit : (K (F := F)).VecSplit' (P m) 0 := by
  intro d c
  show (bigSep Finset.univ fun s : Fin 16 => handed m d (coordsV c s) (tileShare (F := F) (c, s)) (m (oL d))) ⊢ |={Set.univ}=> iprop(
      (bigSep Finset.univ fun s : Fin 16 => handed m d (coordsV c s) (tileShare (F := F) (c, s)) (m (oL d)))
      ∗ ((bigSep Finset.univ fun s : Fin 16 => handed m d (coordsV c s) (tileShare (F := F) (c, s)) (outV m d))
          -∗ bigSep Finset.univ fun s : Fin 16 => handed m d (coordsV c s) (tileShare (F := F) (c, s)) (outV m d)))
  iintro H; imodintro
  isplitl [H]; · iexact H
  iintro H; iexact H

/-! ## A tile's obligation -/

/-- Every word of the lists names a row of the table. -/
def PreOK : Prop := ∀ (d : Dev nD) (y : S2560x128.Idx), (lists m d y).toNat < 10000

section Tile

variable (d : Dev nD) (i : grid0.Coords)

/-- A tile's semaphores are the four of the copies, the one of the lists, and the rest. -/
theorem ownSems0_V : ∃ R : sProp (MR F), (ownSems0 (tV d i) : sProp (MR F)) = iprop(ownSems d i ∗ R) := by
  refine ⟨bigSep ((([cc0_scratch3, cc0_scratch4, cc0_scratch5, cc0_scratch6, cc0_scoped0].map fun s : DmaSems sig S_ => (SemLoc.dma s.sem : SemLoc sig)).map
    (fun s => ((tV d i, s) : GSem nD τ sig))).foldl Finset.erase (ownCells (tV d i))) fun g => semVal g 0, ?_⟩
  unfold SparseCore.Cfg.ownSems0
  rw [bigSep_list (fun g => semVal g 0) (([cc0_scratch3, cc0_scratch4, cc0_scratch5, cc0_scratch6, cc0_scoped0].map fun s : DmaSems sig S_ => (SemLoc.dma s.sem : SemLoc sig)).map
    (fun s => ((tV d i, s) : GSem nD τ sig))) _ (List.Nodup.map (Prod.mk_right_injective _) (by decide)) ?_]
  · simp only [List.map_cons, List.map_nil, List.foldr_cons, List.foldr_nil]
    refine eq_of_entails ?_ ?_
    · iintro ⟨H3, H4, H5, H6, Hs, HR⟩
      isplitr [HR]
      · isplitl [H3]; · iexact H3
        isplitl [H4]; · iexact H4
        isplitl [H5]; · iexact H5
        isplitl [H6] <;> iassumption
      · iexact HR
    · iintro ⟨⟨H3, H4, H5, H6, Hs⟩, HR⟩
      isplitl [H3]; · iexact H3
      isplitl [H4]; · iexact H4
      isplitl [H5]; · iexact H5
      isplitl [H6]; · iexact H6
      isplitl [Hs] <;> iassumption
  · intro g hg
    obtain ⟨s, hs, rfl⟩ := List.mem_map.mp hg
    have hall : ∀ s ∈ ([cc0_scratch3, cc0_scratch4, cc0_scratch5, cc0_scratch6, cc0_scoped0].map fun s : DmaSems sig S_ => (SemLoc.dma s.sem : SemLoc sig)),
        s.isScoped .scVector = true := by decide
    exact mem_ownCells.mpr ⟨rfl, hall s hs⟩

/-- A tile's buffers are the lists', the gathered rows', the results', and the rest. -/
theorem ownBufs_V : ∃ R : sProp (MR F), (ownBufs (tV d i) : sProp (MR F)) = iprop(ownPts d i ∗ R) := by
  refine ⟨bigSep ((([cc0_scratch0, cc0_scratch1, cc0_scratch2] : List (Ref sig .scVector)).map ((Proc.scVector (cV i) (jV i)).devRef)).foldl Finset.erase
    (ownRefs (τ := τ) (.scVector (cV i) (jV i)))) fun b => iprop(∃ f, ((d, b) : Loc nD τ sig) ↦{fullShare} f), ?_⟩
  unfold SparseCore.Cfg.ownBufs
  refine (bigSep_list (fun b => iprop(∃ f, ((d, b) : Loc nD τ sig) ↦{fullShare} f))
    (([cc0_scratch0, cc0_scratch1, cc0_scratch2] : List (Ref sig .scVector)).map ((Proc.scVector (cV i) (jV i)).devRef)) _
    (List.Nodup.map (Proc.devRef_injective _) (show ([cc0_scratch0, cc0_scratch1, cc0_scratch2] : List (Ref sig .scVector)).Nodup by decide)) ?_).trans ?_
  · intro b hb
    simp only [List.map_cons, List.map_nil, List.mem_cons, List.not_mem_nil, _root_.or_false] at hb
    rcases hb with rfl | rfl | rfl <;> exact SparseCore.Cfg.mem_ownRefs_of_owner rfl
  · simp only [List.map_cons, List.map_nil, List.foldr_cons, List.foldr_nil]
    refine eq_of_entails ?_ ?_
    · iintro ⟨H0, H1, H2, HR⟩
      isplitr [HR]
      · isplitl [H0]; · iexact H0
        isplitl [H1]; · iexact H1
        iexact H2
      · iexact HR
    · iintro ⟨⟨H0, H1, H2⟩, HR⟩
      isplitl [H0]; · iexact H0
      isplitl [H1]; · iexact H1
      isplitl [H2]; · iexact H2
      iexact HR

/-- The kernel's body on the tile at `i`: from what the tile is handed and its own buffers and semaphores to the same with
    its chunks of the result written. -/
theorem tile_body (hpre : PreOK m) (q : PosShare TreeShare) (O : CellTallies nD τ sig (HIx 1)) (W : Waits sig (HIx 1)) (hO : ∀ g, O g none = 0) :
    iprop(levAts (K (F := F)).L (K (F := F)).lev ∗ emp ∗ handed m d i q (m (oL d))
        ∗ scopedBufs (tV d i) ∗ scopedSems0 (tV d i) ∗ owes (tV d i) O W)
      ⊢ wpT d i (cc0__maxpool_sc i xV (Memref.isWhole_whole _) iV (Memref.isWhole_whole _) oV (Memref.isWhole_whole _) sV (Memref.isWhole_whole _)
          rV (Memref.isWhole_whole _) uV (Memref.isWhole_whole _) cc0_scratch3 cc0_scratch4 cc0_scratch5 cc0_scratch6 cc0_scoped0)
          fun _ => iprop(handed m d i q (outV m d) ∗ scopedBufs (tV d i) ∗ scopedSems0 (tV d i)
            ∗ ∃ W', ⌜∀ p ∈ W', p ∈ W ∨ p.2 = none ∨ p.2 = some 0⌝ ∗ owes (tV d i) O W') := by
  obtain ⟨RS, hS⟩ := ownSems0_V (F := F) d i
  obtain ⟨RB, hB⟩ := ownBufs_V (F := F) d i
  rw [task_eq, (K (F := F)).scopedBufs_V facts d (cV i) (jV i), SparseCore.Cfg.scopedSems0_V (Val := Elt F) d (cV i) (jV i), hS, hB]
  iintro ⟨#Hlv, -, Hh, ⟨Hb, HRB⟩, ⟨Hs, HRS⟩, HO⟩
  ihave Hmw := (show levAts (K (F := F)).L (K (F := F)).lev ⊢ Transfers.MayWaits (tV d i) (default : HIx 1) O from
    (K (F := F)).mayWaits_none (thr := tV d i) hO) $$ Hlv
  ihave Hw := (wp_task d i (x := m (xL d)) (ix := lists m d) (O := O) (W := W) (hpre d) q (m (oL d))) $$ [Hh Hb Hs HO Hmw]
  · isplitl [Hh]; · iexact Hh
    isplitl [Hb]; · iexact Hb
    isplitl [Hs]; · iexact Hs
    isplitl [HO] <;> iassumption
  unfold wpT
  iapply (wp_wand frame (wpE (defs₀ (F := F)) 𝒱₀ (tV d i) none) Set.univ) $$ Hw
  iintro %_ ⟨Hh, Hb, Hs, %W', %hW', HO⟩
  isplitl [Hh]; · iexact Hh
  isplitl [Hb HRB]
  · isplitl [Hb] <;> iassumption
  isplitl [Hs HRS]
  · isplitl [Hs] <;> iassumption
  iexists W'; isplitr
  · ipureintro; exact fun p hp => (hW' p hp).imp_right Or.inl
  · iexact HO

end Tile

theorem defs₀_vector (c : Fin τ.nSC) (s : Fin τ.nSub) :
    defs₀ (F := F) (.scVector c s) 0 ()
      = SparseCore.onTile hcore0 hsub0 (fun c s => cc0__maxpool_sc (coordsV c s)
          xV (Memref.isWhole_whole _) iV (Memref.isWhole_whole _) oV (Memref.isWhole_whole _) sV (Memref.isWhole_whole _)
          rV (Memref.isWhole_whole _) uV (Memref.isWhole_whole _) cc0_scratch3 cc0_scratch4 cc0_scratch5 cc0_scratch6 cc0_scoped0) ⟨⟩ c s := rfl

set_option maxRecDepth 16384 in
theorem tileObl (hpre : PreOK m) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BIBase.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact tile_body m d (coordsV ⟨_, hcs.1⟩ ⟨_, hcs.2⟩) hpre (tileShare (F := F) (c, s)) O W hO

end Cert.Proof
-- ==== Proof.Run.lean ====
/-
  The program's run: the host reshapes and pads the neighbour lists, the kernel runs, and the host slices its padded result.
-/
module

public import Idealize.ShloMosaic.Lib.StableHlo.Run
public import Idealize.ShloMosaic.Lib.Claim
public import proofs.«01_k».proof.Proof.Launch

@[expose] public section

noncomputable section

namespace Cert.Proof

open Cert.KernelIdeal Cert.KernelIdeal.Gen

open Idealize.ShloMosaic Idealize.ShloMosaic.ValueIdx
open Idealize.ShloMosaic.SparseCore.Cfg (HIx Pay)
open Idealize.ShloMosaic.StableHlo (held wp_hlo_within after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The host's operations and the arrays they hold -/

abbrev opR : HloOp τ sig (Elt F) := StableHlo.reshape main_arg1 main_v0 (rfl : (.i32 : EltTy) = .i32) shapeCasts_S10000x32_S2500x128
abbrev opC : HloOp τ sig (Elt F) := StableHlo.nullary main_c (constantI S_ 32 0#32)
abbrev opV : HloOp τ sig (Elt F) :=
  StableHlo.TRef.unary (.of main_c : StableHlo.TRef sig ⟨S_, .i32⟩) (.of main_call0_v0 : StableHlo.TRef sig ⟨S_, .i32⟩) id
abbrev opP : HloOp τ sig (Elt F) :=
  StableHlo.TRef.binary (.of main_v0 : StableHlo.TRef sig ⟨S2500x128, .i32⟩) (.of main_call0_v0 : StableHlo.TRef sig ⟨S_, .i32⟩)
    (.of main_v1 : StableHlo.TRef sig ⟨S2560x128, .i32⟩) (fun x v => pad S2560x128 ![0, 0] ![60, 0] ![0, 0] x v pads_S2500x128_S2560x128_0600_000 h_S_)
abbrev opS : HloOp τ sig (Elt F) := StableHlo.unary main_v2 main_v3
  ((extractStridedSlice S10000x128 ![0, 0] · slices_S10240x128_S10000x128_0_0) : (⟨S10240x128, .f32⟩ : BufTy).Contents (Elt F) → (⟨S10000x128, .f32⟩ : BufTy).Contents (Elt F))

/-- The host's array `b`, among the device's buffers. -/
abbrev at' (b : Ref sig .tc) : DevRef τ sig := Proc.devRef .tc b
/-- All the host's arrays. -/
abbrev S8 : Finset (DevRef τ sig) :=
  {at' main_arg0, at' main_arg1, at' main_v0, at' main_c, at' main_call0_v0, at' main_v1, at' main_v2, at' main_v3}

/-- The arrays held whole, one by one. -/
theorem held_S8 (d : Dev nD) (W : Valuation τ sig (Elt F)) :
    (held (SparseCore.T d) S8 W : sProp (MR F))
      = iprop((xL d ↦{fullShare} W (at' main_arg0)) ∗ (nL d ↦{fullShare} W (at' main_arg1)) ∗ ((SparseCore.T d).loc main_v0 ↦{fullShare} W (at' main_v0))
          ∗ ((SparseCore.T d).loc main_c ↦{fullShare} W (at' main_c)) ∗ ((SparseCore.T d).loc main_call0_v0 ↦{fullShare} W (at' main_call0_v0))
          ∗ (iL d ↦{fullShare} W (at' main_v1)) ∗ (oL d ↦{fullShare} W (at' main_v2)) ∗ (rL d ↦{fullShare} W (at' main_v3))) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (m : (ℓ : Loc nD τ sig) → Buf (Elt F) ℓ) (ρ : Dev nD → PrngReg)

/-- The launch contents; the contents before the kernel; after it; and at the end. -/
def V0 (d : Dev nD) : Valuation τ sig (Elt F) := fun b => m (d, b)
def V1 (d : Dev nD) : Valuation τ sig (Elt F) := after [opR, opC, opV, opP] (V0 m d)
def V2 (d : Dev nD) : Valuation τ sig (Elt F) := Function.update (V1 m d) (at' main_v2) (outV m d)
def V3 (d : Dev nD) : Valuation τ sig (Elt F) := after [opS] (V2 m d)

theorem V1_lists (d : Dev nD) : V1 m d (at' main_v1) = lists m d := by
  unfold V1 lists at'
  after_results
  rfl
theorem V1_x (d : Dev nD) : V1 m d (at' main_arg0) = m (xL d) := by
  unfold V1 at'
  after_results
  rfl
theorem V1_n (d : Dev nD) : V1 m d (at' main_arg1) = m (nL d) := by
  unfold V1 at'
  after_results
  rfl
theorem V1_o (d : Dev nD) : V1 m d (at' main_v2) = m (oL d) := by
  unfold V1 at'
  after_results
  rfl

/-- The result: the first 10000 rows of what the tiles leave. -/
abbrev resV (d : Dev nD) : S10000x128.Idx → F .f32 := extractStridedSlice S10000x128 ![0, 0] (outV m d) slices_S10240x128_S10000x128_0_0

theorem V2_of_ne (d : Dev nD) {b : Ref sig .tc} (h : b ≠ main_v2) : V2 m d (at' b) = V1 m d (at' b) :=
  Function.update_of_ne (StableHlo.devRef_ne_of_ne h) _ _
theorem V2_o (d : Dev nD) : V2 m d (at' main_v2) = outV m d := Function.update_self _ _ _
theorem V3_r (d : Dev nD) : V3 m d (at' main_v3) = resV m d := by
  unfold V3 resV
  rw [← V2_o]
  unfold at'
  after_results
theorem V3_x (d : Dev nD) : V3 m d (at' main_arg0) = m (xL d) := by
  rw [← V1_x m d, ← V2_of_ne m d (show main_arg0 ≠ main_v2 by decide)]
  unfold V3 at'
  after_results
theorem V3_n (d : Dev nD) : V3 m d (at' main_arg1) = m (nL d) := by
  rw [← V1_n m d, ← V2_of_ne m d (show main_arg1 ≠ main_v2 by decide)]
  unfold V3 at'
  after_results

theorem unscoped_held (d : Dev nD) : (unscopedBufs d (fun b => m ((SparseCore.T d).loc b)) : sProp (MR F)) = held (SparseCore.T d) S8 (V0 m d) := by
  rw [held_S8]
  unfold unscopedBufs
  rw [show (Finset.univ.filter fun b : Ref sig .tc => ¬ b.isScoped) = {main_arg0, main_arg1, main_v0, main_c, main_call0_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The launch element of the ghost state -/

def u₀ : UU := (initOf (K (F := F)).hsCells (K (F := F)).hsToks, 1)

theorem bigSep_emp' {I : Type} (s : Finset I) : (bigSep s fun _ => iprop(emp)) = (iprop(emp) : sProp (MR F)) := bigSep_emp_const s

theorem hu₀ : (ownU (u₀ (F := F)) : sProp (MR F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem hR : (opR (F := F)).bufs ⊆ S8 := show ({at' main_arg1, at' main_v0} : Finset (DevRef τ sig)) ⊆ S8 by decide
theorem hC : (opC (F := F)).bufs ⊆ S8 := show ({at' main_c} : Finset (DevRef τ sig)) ⊆ S8 by decide
theorem hV : (opV (F := F)).bufs ⊆ S8 := show ({at' main_c, at' main_call0_v0} : Finset (DevRef τ sig)) ⊆ S8 by decide
theorem hP : (opP (F := F)).bufs ⊆ S8 := show ({at' main_v0, at' main_call0_v0, at' main_v1} : Finset (DevRef τ sig)) ⊆ S8 by decide
theorem hS : (opS (F := F)).bufs ⊆ S8 := show ({at' main_v2, at' main_v3} : Finset (DevRef τ sig)) ⊆ S8 by decide

/-- What @main leaves the claims: the arguments at their launch contents, the result at its value. -/
abbrev FIN (d : Dev nD) : sProp (MR F) :=
  iprop((xL d ↦{fullShare} m (xL d)) ∗ (nL d ↦{fullShare} m (nL d)) ∗ (rL d ↦{fullShare} resV m d))

/-- @main on a device's TensorCore: the lists reshaped and padded, the call from the three arrays parted among the tiles, the slice. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opR) (S := S8) hR (V := V0 m d)) $$ [Hb Hheld]
  · isplitl [Hb] <;> iassumption
  iintro ⟨Hb, Hheld⟩
  rw [wp_ret]; imodintro
  iapply (wp_hlo_within 𝒱 (SparseCore.T d) none Set.univ (op := opC) (S := S8) hC (V := after [opR] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opV) (S := S8) hV (V := after [opR, opC] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opP) (S := S8) hP (V := after [opR, opC, opV] (V0 m d))) $$ [Hb Hheld]
  · isplitl [Hb]; · iexact Hb
    iexact Hheld
  iintro ⟨Hb, Hheld⟩
  rw [wp_ret]; imodintro
  -- the call
  ihave Hh := (Entails.of_eq (show held (SparseCore.T d) S8 ((opP (F := F)).result (after [opR, opC, opV] (V0 m d))) = _ from
    held_S8 (F := F) d (V1 m d))) $$ Hheld
  rw [V1_lists, V1_x, V1_n, V1_o]
  icases Hh with ⟨Hx, Hn, Hv0, Hc, Hcv, Hi, Ho, Hr⟩
  ihave Hall := (Entails.of_eq (arrays_eq m d (m (oL d)))) $$ [Hx Hi Ho]
  · isplitl [Hx]; · iexact Hx
    isplitl [Hi] <;> iassumption
  icases Hall with ⟨Hall, Hrest⟩
  iapply ((K (F := F)).wp_run (D (F := F)) 𝒱 (EH := EH) (P := P m) κ d 0) $$ [Hst Hall Hrest Hn Hv0 Hc Hcv Hr Hb Hts]
  isplitr; · iexact Hctx
  isplitl [Hst]; · iexact Hst
  isplitl [Hall]; · iexact Hall
  iintro ⟨Hst, Hdn⟩
  ihave Hback := (Entails.of_eq (arrays_eq m d (outV m d)).symm) $$ [Hdn Hrest]
  · isplitl [Hdn]; · iexact Hdn
    iexact Hrest
  icases Hback with ⟨Hx, Hi, Ho⟩
  -- the slice
  iapply (wp_hlo_within 𝒱 (SparseCore.T d) none Set.univ (op := opS) (S := S8) hS (V := V2 m d)) $$ [Hb Hx Hn Hv0 Hc Hcv Hi Ho Hr]
  · isplitl [Hb]; · iexact Hb
    rw [held_S8, V2_o, V2_of_ne m d (b := main_arg0) (by decide), V2_of_ne m d (b := main_arg1) (by decide), V2_of_ne m d (b := main_v0) (by decide),
      V2_of_ne m d (b := main_c) (by decide), V2_of_ne m d (b := main_call0_v0) (by decide), V2_of_ne m d (b := main_v1) (by decide),
      V2_of_ne m d (b := main_v3) (by decide), V1_lists, V1_x, V1_n]
    isplitl [Hx]; · iexact Hx
    isplitl [Hn]; · iexact Hn
    isplitl [Hv0]; · iexact Hv0
    isplitl [Hc]; · iexact Hc
    isplitl [Hcv]; · iexact Hcv
    isplitl [Hi]; · iexact Hi
    isplitl [Ho] <;> iassumption
  iintro ⟨Hb, Hheld⟩
  ihave Hh := (Entails.of_eq (show held (SparseCore.T d) S8 ((opS (F := F)).result (V2 m d)) = _ from held_S8 (F := F) d (V3 m d))) $$ Hheld
  rw [V3_r, V3_x, V3_n]
  icases Hh with ⟨Hx, Hn, -, -, -, -, -, Hr⟩
  rw [wp_ret]; imodintro; imodintro
  isplitl [Hst]; · iexact Hst
  isplitr [Hb Hts]
  · isplitl [Hx]; · iexact Hx
    isplitl [Hn] <;> iassumption
  isplitl [Hb] <;> iassumption

/-- What the claims read of a device's final state. -/
def fq (d : Dev nD) (s' : Phys nD τ sig (Elt F)) : Prop :=
  s'.mem.mem (rL d) = resV m d ∧ s'.mem.mem (xL d) = m (xL d) ∧ s'.mem.mem (nL d) = m (nL d)

theorem hfin (d : Dev nD) (s' : Phys nD τ sig (Elt F)) : iprop(FIN m d ∗ SI s') ⊢ (⌜fq m d s'⌝ : sProp (MR F)) := by
  iintro ⟨⟨Hx, Hn, Hr⟩, HSI⟩
  ihave H := (persistent_entails_right (SI_pointsTo_agree (st := s') (ℓ := xL d) (I := Finset.univ) (q := fullShare) (f := m (xL d)))) $$ [HSI Hx]
  · isplitl [HSI] <;> iassumption
  icases H with ⟨%hx, HSI, -⟩
  ihave H := (persistent_entails_right (SI_pointsTo_agree (st := s') (ℓ := nL d) (I := Finset.univ) (q := fullShare) (f := m (nL d)))) $$ [HSI Hn]
  · isplitl [HSI] <;> iassumption
  icases H with ⟨%hn, HSI, -⟩
  ihave H := (SI_pointsTo_agree (st := s') (ℓ := rL d) (I := Finset.univ) (q := fullShare) (f := resV m d)) $$ [HSI Hr]
  · isplitl [HSI] <;> iassumption
  icases H with %hr
  ipureintro
  exact ⟨funext fun i => hr i (Finset.mem_univ i), funext fun i => hx i (Finset.mem_univ i), funext fun i => hn i (Finset.mem_univ i)⟩

/-! ## The program's run -/

def QC : PUnit × MemSt nD τ sig (Elt F) → Prop := fun r =>
  (∀ d : Dev nD, r.2.mem (rL d) = resV m d ∧ r.2.mem (xL d) = m (xL d) ∧ r.2.mem (nL d) = m (nL d)) ∧ r.2.sem = fun _ => 0

/-- From a memory whose lists name rows of the table, every run of the program ends, with the result at its value, the
    arguments unchanged and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Ref.lean ====
/-
  What the reference computes: at row `r` and feature `c`, the greatest of feature `c` over the 32 rows that list `r` names.
-/
module

public import Idealize.ShloMosaic.Lib.ValueIdxCore
public import Idealize.ShloMosaic.Lib.ReduceAll
public import Idealize.ShloMosaic.Lib.Pipeline.Value
public import Idealize.ShloMosaic.PureOps.Ideal.Laws
public import Idealize.ShloMosaic.PureOps.Reduce
public import proofs.«01_k».proof.Proof.Gen.ReferenceIdeal.Run

@[expose] public section

noncomputable section

namespace Cert.Proof.Ref

open Cert.ReferenceIdeal Cert.ReferenceIdeal.Gen

open Idealize.ShloMosaic Idealize.ShloMosaic.ValueIdx

variable {F : FTy → Type} [FloatOps F]

/-! ## Words below 10000, as signed words -/

theorem toInt_of_lt (v : BitVec 32) (h : v.toNat < 10000) : v.toInt = v.toNat := by
  rw [BitVec.toInt_eq_toNat_cond]; omega
theorem slt_zero (v : BitVec 32) (h : v.toNat < 10000) : IntOp.cmpi .slt v 0#32 = 0#1 := by
  have e := toInt_of_lt v h
  have : v.slt 0#32 = false := by rw [BitVec.slt_eq_decide, e, decide_eq_false_iff_not]; simp
  simp [IntOp.cmpi, this]
theorem sge_zero (v : BitVec 32) (h : v.toNat < 10000) : IntOp.cmpi .sge v 0#32 = 1#1 := by
  have e := toInt_of_lt v h
  have : (0#32 : BitVec 32).sle v = true := by rw [BitVec.sle_eq_decide, e, decide_eq_true_iff]; simp
  simp [IntOp.cmpi, this]
theorem sle_last (v : BitVec 32) (h : v.toNat < 10000) : IntOp.cmpi .sle v 10000#32 = 1#1 := by
  have e := toInt_of_lt v h
  have : v.sle 10000#32 = true := by
    rw [BitVec.sle_eq_decide, e, decide_eq_true_iff, show (10000#32 : BitVec 32).toInt = 10000 by decide]; omega
  simp [IntOp.cmpi, this]

theorem select_of_one {s : Shape} {α : Type} {c : s.Idx → BitVec 1} {a b : s.Idx → α} {y : s.Idx} {v : α} (h : c y = 1#1) (g : a y = v) : select c a b y = v := by
  rw [select_apply, h, select_one, g]

/-! ## The reference's terms -/

variable (x : S10000x128.Idx → F .f32) (ix : S10000x32.Idx → BitVec 32)

/-- The rows to take, a negative word counted from the table's end. -/
def starts : S10000x32x1.Idx → BitVec 32 :=
  broadcastInDim S10000x32x1 ![0, 1] bcast_S10000x32_S10000x32x1_0_1
    (select (cmpi .slt ix (broadcastInDim S10000x32 ![] bcast_S_S10000x32 (constantI S_ 32 0#32)))
      (addi ix (broadcastInDim S10000x32 ![] bcast_S_S10000x32 (constantI S_ 32 10001#32))) ix)

/-- Which of them are rows of the table. -/
def inside : S10000x32x1.Idx → BitVec 1 :=
  andi (cmpi .sge (starts ix) (broadcastInDim S10000x32x1 ![] bcast_S_S10000x32x1 (constantI S_ 32 0#32)))
    (cmpi .sle (starts ix) (broadcastInDim S10000x32x1 ![0, 1, 2] bcast_S1x1x1_S10000x32x1_0_1_2 (broadcastInDim S1x1x1 ![2] bcast_S1_S1x1x1_2 (constantI S1 32 10000#32))))

/-- The table and the zero row after it. -/
def table : S10001x128.Idx → F .f32 :=
  concatenate S10001x128 0 [⟨S10000x128, x⟩, ⟨S1x128, broadcastInDim S1x128 ![] bcast_S_S1x128 (constant S_ .f32 0x00000000#32)⟩]
    concatenates_S10000x128_S1x128_S10001x128_d0

/-- The rows taken. -/
def taken : S10000x32x128.Idx → F .f32 :=
  select (broadcastInDim S10000x32x128 ![0, 1] bcast_S10000x32_S10000x32x128_0_1
      (Host.reduce IntOp.andi (inside ix) (constantI S_ 1 1#1) reducesTo_S10000x32x1_S10000x32_d2 h_S_))
    (Host.gather gather_S10001x128_S10000x32x1_S10000x32x128_2_0_n_n_0_2_1128 (table x) (starts ix))
    (broadcastInDim S10000x32x128 ![] bcast_S_S10000x32x128 (constant S_ .f32 0x7FC00000#32))

/-- The reference's result. -/
def refV : S10000x128.Idx → F .f32 :=
  Host.reduce FloatOps.maximumf (taken x ix) (constant S_ .f32 0xFF800000#32) reducesTo_S10000x32x128_S10000x128_d1 h_S_

/-! ## The terms at an index, every word naming a row of the table -/

variable (hix : ∀ y, (ix y).toNat < 10000)
include hix

theorem starts_apply (y : S10000x32x1.Idx) : starts ix y = ix (ix2 (y 0) (y 1)) := by
  unfold starts
  refine (broadcastInDim_apply _ _ _ y (ix2 (y 0) (y 1)) (fun a => match a with | ⟨0, _⟩ => rfl | ⟨1, _⟩ => rfl)).trans ?_
  show Scalar.select (IntOp.cmpi .slt (ix (ix2 (y 0) (y 1))) 0#32) _ _ = _
  rw [slt_zero _ (hix _), select_zero]
  rfl

theorem inside_apply (y : S10000x32x1.Idx) : inside ix y = 1#1 := by
  show IntOp.andi (IntOp.cmpi .sge (starts ix y) 0#32) (IntOp.cmpi .sle (starts ix y) 10000#32) = 1#1
  rw [starts_apply ix hix, sge_zero _ (hix _), sle_last _ (hix _)]
  rfl

/-- The row a word names. -/
abbrev row (v : BitVec 32) : Fin 10000 := Fin.ofNat 10000 v.toNat

/-- The gather's dimension numbers. -/
abbrev gd : GatherDims S10001x128 S10000x32x1 S10000x32x128 := gather_S10001x128_S10000x32x1_S10000x32x128_2_0_n_n_0_2_1128

theorem start_row (y : S10000x32x128.Idx) (w : S10000x32x1.Idx → BitVec 32) (v : BitVec 32) (hw : ∀ z : S10000x32x1.Idx, z 0 = y 0 → z 1 = y 1 → w z = v)
    (hv : v.toNat < 10000) : gd.start y w 0 = v.toNat := by
  unfold GatherDims.start
  rw [dif_pos (show (0 : Fin 2) ∈ gd.startIndexMap from List.mem_singleton.mpr rfl), hw _ rfl rfl, toInt_of_lt _ hv]
  show min v.toNat 10000 = v.toNat
  omega

theorem gather_apply (y : S10000x32x128.Idx) :
    Host.gather gd (table x) (starts ix) y = x (ix2 (row (ix (ix2 (y 0) (y 1)))) (y 2)) := by
  have hv := hix (ix2 (y 0) (y 1))
  unfold Host.gather table
  refine concatenate_pair_apply_left (t := S10001x128) (s₁ := S10000x128) (s₂ := S1x128) 0 _ _ _ _ rfl _ (fun b => ?_)
  show _ = gd.start y (starts ix) b + gd.batchCoord y b + gd.offCoord y b
  have h01 : b = 0 ∨ b = 1 := by
    match b with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl)),
      start_row ix hix y (starts ix) (ix (ix2 (y 0) (y 1))) (fun z h0 h1 => by rw [starts_apply ix hix, h0, h1]) hv]
    show (ix (ix2 (y 0) (y 1))).toNat % 10000 = _
    omega
  · rw [GatherDims.batchCoord_eq_zero _ _ _ List.not_mem_nil]
    unfold GatherDims.start
    rw [dif_neg (show (1 : Fin 2) ∉ gd.startIndexMap by rw [show gd.startIndexMap = [0] from rfl]; decide)]
    unfold GatherDims.offCoord
    rw [dif_pos ((GatherDims.mem_sKept _ _).mpr ⟨by rw [show gd.collapsedSliceDims = [0] from rfl]; decide, List.not_mem_nil⟩)]
    show (y 2).val = 0 + 0 + _
    rw [Nat.zero_add]
    rfl

theorem taken_apply (y : S10000x32x128.Idx) : taken x ix y = x (ix2 (row (ix (ix2 (y 0) (y 1)))) (y 2)) := by
  have hm : broadcastInDim S10000x32x128 ![0, 1] bcast_S10000x32_S10000x32x128_0_1
      (Host.reduce IntOp.andi (inside ix) (constantI S_ 1 1#1) reducesTo_S10000x32x1_S10000x32_d2 h_S_) y = 1#1 :=
    (broadcastInDim_apply _ _ _ y (ix2 (y 0) (y 1)) (fun a => match a with | ⟨0, _⟩ => rfl | ⟨1, _⟩ => rfl)).trans
      (Host.reduce_andi_one _ _ _ _ _ rfl (inside_apply ix hix))
  exact select_of_one hm (gather_apply x ix hix y)

end Cert.Proof.Ref

namespace Cert.Proof.Ref

open Cert.ReferenceIdeal Cert.ReferenceIdeal.Gen

open Idealize.ShloMosaic Idealize.ShloMosaic.ValueIdx

theorem red : S10000x32x128.Reduces [1] S10000x128 := by decide
theorem lift_eq (j : S10000x128.Idx) (k : Fin 32) : red.lift j k = ix3 (j 0) k (j 1) := by
  funext a
  match a with
  | ⟨0, _⟩ => rfl
  | ⟨1, _⟩ => rfl
  | ⟨2, _⟩ => rfl

theorem taken_lift (x : S10000x128.Idx → Ideal .f32) (ix : S10000x32.Idx → BitVec 32) (hix : ∀ y, (ix y).toNat < 10000) (j : S10000x128.Idx) (k : Fin 32) :
    taken x ix (red.lift j k) = (fun k : Fin 32 => x (ix2 (row (ix (ix2 (j 0) k))) (j 1))) k := by
  have h2 := taken_apply x ix hix (red.lift j k)
  have h3 := lift_eq j k
  generalize red.lift j k = y at h2 h3 ⊢
  subst h3
  exact h2

/-- The reference's result at an index: the greatest over the 32 rows the list names. -/
theorem refV_apply (x : S10000x128.Idx → Ideal .f32) (ix : S10000x32.Idx → BitVec 32) (hix : ∀ y, (ix y).toNat < 10000) (j : S10000x128.Idx) :
    refV x ix j = (Finset.univ : Finset (Fin 32)).sup fun k => (x (ix2 (row (ix (ix2 (j 0) k))) (j 1)) : EReal) := by
  unfold refV
  refine (Host.reduce_eq_fold_single _ _ _ _ red _ j).trans ?_
  rw [show (constant (F := Ideal) S_ .f32 0xFF800000#32) (Shape.Idx.first h_S_) = (⊥ : EReal) by
      show Ideal.ofBits .f32 0xFF800000#32 = ⊥
      simp [Ideal.ofBits, Ideal.ieee]]
  have ht := taken_lift x ix hix j
  generalize taken x ix = g at ht ⊢
  generalize (fun k : Fin 32 => x (ix2 (row (ix (ix2 (j 0) k))) (j 1))) = f at ht ⊢
  exact Finset.fold_congr fun k _ => ht k

end Cert.Proof.Ref
-- ==== Proof.Equal.lean ====
/-
  The precondition read at a word, and the kernel's result equal to the reference's.
-/
module

public import Idealize.ShloMosaic.Lib.ReduceAll
public import Idealize.ShloMosaic.Lib.KernelVsHost
public import proofs.«01_k».proof.Defs
public import proofs.«01_k».proof.Proof.Gen.Pre_in_range
public import proofs.«01_k».proof.Proof.Run
public import proofs.«01_k».proof.Proof.Ref

@[expose] public section

noncomputable section

namespace Cert.Proof

open Cert.KernelIdeal Cert.KernelIdeal.Gen

open Idealize.ShloMosaic Idealize.ShloMosaic.ValueIdx

/-! ## The precondition -/

section Pre

variable {F : FTy → Type} [FloatOps F]

/-- A word not below 0 and below 10000 as a signed word is below 10000. -/
theorem word_lt (v : BitVec 32) (e : IntOp.andi (IntOp.cmpi .sge v 0#32) (IntOp.cmpi .slt v 10000#32) = 1#1) : v.toNat < 10000 := by
  obtain ⟨h0, h1⟩ := IntOp.andi_eq_one.1 e
  have a0 : (0#32 : BitVec 32).sle v = true := by
    by_contra h
    simp [IntOp.cmpi, Bool.eq_false_iff.mpr h] at h0
  have a1 : v.slt 10000#32 = true := by
    by_contra h
    simp [IntOp.cmpi, Bool.eq_false_iff.mpr h] at h1
  rw [BitVec.sle_eq_decide, decide_eq_true_iff] at a0
  rw [BitVec.slt_eq_decide, decide_eq_true_iff, show (10000#32 : BitVec 32).toInt = 10000 by decide] at a1
  rw [show (0#32 : BitVec 32).toInt = 0 by decide] at a0
  rw [BitVec.toInt_eq_toNat_cond] at a0 a1
  split at a0 <;> omega

/-- Under the precondition every word of the lists names a row of the table. -/
theorem words_lt (x : S10000x128.Idx → F .f32) (ix : S10000x32.Idx → BitVec 32) (h : Cert.Pre_in_range.fn (F := F) x ix = fun _ => 1#1)
    (y : S10000x32.Idx) : (ix y).toNat < 10000 := by
  haveI : Subsingleton Cert.Pre_in_range.S_.Idx := ⟨fun a b => funext fun k => k.elim0⟩
  have e := congrFun h (fun k => k.elim0)
  unfold Cert.Pre_in_range.fn at e
  exact word_lt _ (Host.reduce_andi_all _ _ _ _ _ e y)

variable (m : (ℓ : Loc nD τ sig) → Buf (Elt F) ℓ)

/-- The padded lists' words are the lists' own and zeros. -/
theorem lists_lt (d : Dev nD) (h : ∀ y : S10000x32.Idx, ((m (nL d) : S10000x32.Idx → BitVec 32) y).toNat < 10000) (y : S2560x128.Idx) : (lists m d y).toNat < 10000 := by
  unfold lists pad
  split
  · exact h _
  · show (0#32 : BitVec 32).toNat < 10000
    decide

/-- Entry `32 (r mod 4) + k` of the padded lists' row `r / 4` is entry `k` of list `r`. -/
theorem lists_at (d : Dev nD) (r : Fin 10000) (k : Fin 32) (a : Fin 2560) (b : Fin 128) (ha : a.val = r.val / 4) (hb : b.val = 32 * (r.val % 4) + k.val) :
    lists m d (ix2 a b) = (m (nL d) : S10000x32.Idx → BitVec 32) (ix2 r k) := by
  unfold lists
  have ha' : a.val < 2500 := by omega
  refine (pad_apply_of_inside _ _ _ _ _ _ _ (ix2 a b) (ix2 (⟨a.val, ha'⟩ : Fin 2500) b) (fun c => ?_)).trans ?_
  · match c with
    | ⟨0, _⟩ => show a.val = 0 + a.val * 1; omega
    | ⟨1, _⟩ => show b.val = 0 + b.val * 1; omega
  · refine shapeCast_apply _ _ _ (ix2 r k) ?_
    rw [Shape.rowMajor_val_two, Shape.rowMajor_val_two]
    show r.val * 32 + k.val = a.val * 128 + b.val
    omega

end Pre

/-! ## The two results -/

/-- At the ideal values the maximum taken from the first entry on is the greatest of the entries. -/
theorem maxSeq_sup (e : Fin 128 → Ideal .f32) (r : Fin 4) (n : ℕ) :
    maxSeq e r n = (Finset.range (n + 1)).sup fun k => (e (Fin.ofNat 128 (32 * r.val + k)) : EReal) := by
  induction n with
  | zero => simp [maxSeq]
  | succ n ih =>
    rw [Finset.range_add_one, Finset.sup_insert, ← ih, sup_comm]
    show max (maxSeq e r n) (e (Fin.ofNat 128 (32 * r.val + 1 + n))) = _
    rw [show 32 * r.val + 1 + n = 32 * r.val + (n + 1) by omega]

/-- The greatest over the first 32 numbers is the greatest over the 32 positions. -/
theorem sup_range (f : ℕ → EReal) (g : Fin 32 → EReal) (h : ∀ k : Fin 32, f k.val = g k) : (Finset.range 32).sup f = (Finset.univ : Finset (Fin 32)).sup g := by
  refine le_antisymm (Finset.sup_le fun k hk => ?_) (Finset.sup_le fun k _ => ?_)
  · exact (h ⟨k, Finset.mem_range.mp hk⟩).le.trans (Finset.le_sup (f := g) (Finset.mem_univ _))
  · exact (h k).ge.trans (Finset.le_sup (f := f) (Finset.mem_range.mpr k.isLt))

variable (m : (ℓ : Loc nD τ sig) → Buf (Elt Ideal) ℓ)

/-- The kernel's result is the reference's. -/
theorem resV_eq (d : Dev nD) (h : ∀ y : S10000x32.Idx, ((m (nL d) : S10000x32.Idx → BitVec 32) y).toNat < 10000) :
    resV m d = Ref.refV (m (xL d)) (m (nL d)) := by
  funext j
  refine Eq.trans ?_ (Ref.refV_apply _ _ h j).symm
  have hj : (j 0).val < 10000 := (j 0).isLt
  unfold resV extractStridedSlice outV outVal
  rw [maxSeq_sup]
  refine sup_range _ _ fun k => ?_
  have hk := lists_at m d (j 0) k (Fin.ofNat 2560 ((0 + (j 0).val) / 4)) (Fin.ofNat 128 (32 * ((0 + (j 0).val) % 4) + k.val))
    (by show (0 + (j 0).val) / 4 % 2560 = (j 0).val / 4; omega)
    (by show (32 * ((0 + (j 0).val) % 4) + k.val) % 128 = 32 * ((j 0).val % 4) + k.val; omega)
  refine congrArg (m (xL d) : S10000x128.Idx → EReal) (funext fun a => ?_)
  match a with
  | ⟨0, _⟩ => exact congrArg (fun v : BitVec 32 => Fin.ofNat 10000 v.toNat) hk
  | ⟨1, _⟩ => exact Fin.ext (Nat.zero_add _)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem

/-- The kernel as printed, at the machine's floats: it runs, its arguments unchanged, every semaphore at zero. -/
theorem frame_kernel : Cert.quiescent_Kernel := fun m ρ hpre =>
  (θ_run Cert.KernelIdeal.defs _ _).mono (fun _ h => ⟨fun c => ⟨(h.1 c).2.1, (h.1 c).2.2⟩, h.2⟩)
    (run_main (F := Bits) m ρ fun d => lists_lt (F := Bits) m d (words_lt _ _ (hpre d)))

/-- The same at the ideal values. -/
theorem frame_ideal : Cert.quiescent_KernelIdeal := fun m ρ hpre =>
  (θ_run Cert.KernelIdeal.defs _ _).mono (fun _ h => ⟨fun c => ⟨(h.1 c).2.1, (h.1 c).2.2⟩, h.2⟩)
    (run_main (F := Ideal) m ρ fun d => lists_lt (F := Ideal) m d (words_lt _ _ (hpre d)))

/-- The reference has no semaphore. -/
theorem no_sem (σ : GSem Cert.ReferenceIdeal.nD Cert.ReferenceIdeal.τ Cert.ReferenceIdeal.sig → ℤ) : σ = fun _ => 0 :=
  funext fun g => absurd (Finset.mem_univ g.2) (by
    rw [show (Finset.univ : Finset (SemLoc Cert.ReferenceIdeal.sig)) = ∅ by decide]; exact Finset.notMem_empty _)

/-- The reference runs, its arguments unchanged, whatever the lists hold. -/
theorem frame_reference : Cert.quiescent_ReferenceIdeal := fun m ρ _ =>
  (θ_run Cert.ReferenceIdeal.defs _ _).mono (fun _ h => ⟨fun c => (h c).2, no_sem _⟩) (Cert.ReferenceIdeal.Value.run (F := Ideal) m ρ)

/-- In particular under the kernel's precondition. -/
theorem frame_reference_pre : Cert.quiescent_ReferenceIdeal_pre_in_range := fun m ρ _ => frame_reference m ρ trivial

/-- From equal arguments the kernel and the reference end with equal results. -/
theorem equal : Cert.algebraic_KernelIdeal_ReferenceIdeal := fun m g m' g' hpre hagree =>
  have hw := fun d => words_lt (F := Ideal) _ _ (hpre d)
  ⟨fun d => resV (F := Ideal) m d,
    (θ_run Cert.KernelIdeal.defs _ _).mono (fun _ h c => h.1 c) (run_main (F := Ideal) m g fun d => lists_lt (F := Ideal) m d (hw d)),
    (θ_run Cert.ReferenceIdeal.defs _ _).mono (fun _ h c => ⟨(h c).1.trans (by
        rw [(hagree c).1, (hagree c).2]
        exact (resV_eq m c (hw c)).symm), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts,
  frame_kernel, frame_ideal, frame_reference, frame_reference_pre, trivial, equal⟩

end Cert.Proof

end
